-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pack.Statement Cert.KernelIdeal.S96x128
  ∧ IdealRules.bf16_pair.PackStatement Cert.KernelIdeal.S8x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v48_2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x12x1024x1536 : Shape := ⟨4, ![8, 12, 1024, 1536]⟩
abbrev S8x12x1024x96 : Shape := ⟨4, ![8, 12, 1024, 96]⟩
abbrev S12x1024x1536 : Shape := ⟨3, ![12, 1024, 1536]⟩
abbrev S12x1024x96 : Shape := ⟨3, ![12, 1024, 96]⟩
abbrev S8x1x512x1536 : Shape := ⟨4, ![8, 1, 512, 1536]⟩
abbrev S8x1x512x96 : Shape := ⟨4, ![8, 1, 512, 96]⟩
abbrev S1x512x1536 : Shape := ⟨3, ![1, 512, 1536]⟩
abbrev S1x512x96 : Shape := ⟨3, ![1, 512, 96]⟩
abbrev S8x768x128 : Shape := ⟨3, ![8, 768, 128]⟩
abbrev S8x128x128 : Shape := ⟨3, ![8, 128, 128]⟩
abbrev S128x128 : Shape := ⟨2, ![128, 128]⟩
abbrev S768x128 : Shape := ⟨2, ![768, 128]⟩
abbrev S1x1x128x96 : Shape := ⟨4, ![1, 1, 128, 96]⟩
abbrev S128x96 : Shape := ⟨2, ![128, 96]⟩
abbrev S96x128 : Shape := ⟨2, ![96, 128]⟩
abbrev S1x96x128 : Shape := ⟨3, ![1, 96, 128]⟩
abbrev S8x128 : Shape := ⟨2, ![8, 128]⟩
abbrev S1x1x512x128 : Shape := ⟨4, ![1, 1, 512, 128]⟩
abbrev S512x128 : Shape := ⟨2, ![512, 128]⟩
abbrev S1x128x128 : Shape := ⟨3, ![1, 128, 128]⟩
abbrev S1x8x128 : Shape := ⟨3, ![1, 8, 128]⟩
abbrev S16x128 : Shape := ⟨2, ![16, 128]⟩
abbrev S8x8x128 : Shape := ⟨3, ![8, 8, 128]⟩
abbrev S8x1x128 : Shape := ⟨3, ![8, 1, 128]⟩
abbrev S64x128 : Shape := ⟨2, ![64, 128]⟩
abbrev S1x512x128 : Shape := ⟨3, ![1, 512, 128]⟩
abbrev S1x128x96 : Shape := ⟨3, ![1, 128, 96]⟩

abbrev nBuf : Space → Nat
  | .hbm => 4
  | .vmem => 14
  | .smem => 0
  | _ => 0

abbrev bufTy : (tb : Table) → Fin (tcTables nBuf tb) → BufTy
  | .hbm, ⟨0, _⟩ => ⟨S8x12x1024x1536, .i8⟩
  | .hbm, ⟨1, _⟩ => ⟨S8x12x1024x96, .f32⟩
  | .hbm, ⟨2, _⟩ => ⟨S12x1024x1536, .i8⟩
  | .hbm, ⟨3, _⟩ => ⟨S12x1024x96, .f32⟩
  | .local _ .vmem, ⟨0, _⟩ => ⟨S8x1x512x1536, .i8⟩
  | .local _ .vmem, ⟨1, _⟩ => ⟨S8x1x512x1536, .i8⟩
  | .local _ .vmem, ⟨2, _⟩ => ⟨S8x1x512x96, .f32⟩
  | .local _ .vmem, ⟨3, _⟩ => ⟨S8x1x512x96, .f32⟩
  | .local _ .vmem, ⟨4, _⟩ => ⟨S1x512x1536, .i8⟩
  | .local _ .vmem, ⟨5, _⟩ => ⟨S1x512x1536, .i8⟩
  | .local _ .vmem, ⟨6, _⟩ => ⟨S1x512x96, .f32⟩
  | .local _ .vmem, ⟨7, _⟩ => ⟨S1x512x96, .f32⟩
  | .local _ .vmem, ⟨8, _⟩ => ⟨S8x768x128, .f32⟩
  | .local _ .vmem, ⟨9, _⟩ => ⟨S8x768x128, .f32⟩
  | .local _ .vmem, ⟨10, _⟩ => ⟨S8x768x128, .f32⟩
  | .local _ .vmem, ⟨11, _⟩ => ⟨S8x128x128, .i32⟩
  | .local _ .vmem, ⟨12, _⟩ => ⟨S128x128, .i32⟩
  | .local _ .vmem, ⟨13, _⟩ => ⟨S768x128, .f32⟩
  | _, _ => ⟨S8x12x1024x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![12, 2], ![false, false]⟩

@[reducible] def k0_t1_loop : Scf.Loop 32 :=
  let c0_i32 : BitVec 32 := 0#32
  let c12_i32 : BitVec 32 := 12#32
  let v993 : BitVec 32 := Scalar.addi c0_i32 c12_i32
  let c1_i32 : BitVec 32 := 1#32
  ⟨c0_i32, v993, c1_i32⟩
def k0_mult1 (k0_t1 : Fin k0_t1_loop.trips) : BitVec 32 :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  v1016
def k0_off1 (k0_t1 : Fin k0_t1_loop.trips) : Fin 4 → Nat :=
  let c0_782 : Index := 0#32
  let c0_783 : Index := 0#32
  let c0_784 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  let v1017 : BitVec 32 := v1016
  let v1018 : Index := Scalar.indexCast v1017
  ![0, 0, 0, v1018.toNat]
def k0_off2 (k0_t1 : Fin k0_t1_loop.trips) : Fin 4 → Nat :=
  let c1_788 : Index := 1#32
  let c0_789 : Index := 0#32
  let c0_790 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  let v1017 : BitVec 32 := v1016
  let v1026 : Index := Scalar.indexCast v1017
  ![1, 0, 0, v1026.toNat]
def k0_off3 (k0_t1 : Fin k0_t1_loop.trips) : Fin 4 → Nat :=
  let c2_794 : Index := 2#32
  let c0_795 : Index := 0#32
  let c0_796 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  let v1017 : BitVec 32 := v1016
  let v1034 : Index := Scalar.indexCast v1017
  ![2, 0, 0, v1034.toNat]
def k0_off4 (k0_t1 : Fin k0_t1_loop.trips) : Fin 4 → Nat :=
  let c3_800 : Index := 3#32
  let c0_801 : Index := 0#32
  let c0_802 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  let v1017 : BitVec 32 := v1016
  let v1042 : Index := Scalar.indexCast v1017
  ![3, 0, 0, v1042.toNat]
def k0_off5 (k0_t1 : Fin k0_t1_loop.trips) : Fin 4 → Nat :=
  let c4_806 : Index := 4#32
  let c0_807 : Index := 0#32
  let c0_808 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  let v1017 : BitVec 32 := v1016
  let v1050 : Index := Scalar.indexCast v1017
  ![4, 0, 0, v1050.toNat]
def k0_off6 (k0_t1 : Fin k0_t1_loop.trips) : Fin 4 → Nat :=
  let c5_812 : Index := 5#32
  let c0_813 : Index := 0#32
  let c0_814 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  let v1017 : BitVec 32 := v1016
  let v1058 : Index := Scalar.indexCast v1017
  ![5, 0, 0, v1058.toNat]
def k0_off7 (k0_t1 : Fin k0_t1_loop.trips) : Fin 4 → Nat :=
  let c6_818 : Index := 6#32
  let c0_819 : Index := 0#32
  let c0_820 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  let v1017 : BitVec 32 := v1016
  let v1066 : Index := Scalar.indexCast v1017
  ![6, 0, 0, v1066.toNat]
def k0_off8 (k0_t1 : Fin k0_t1_loop.trips) : Fin 4 → Nat :=
  let c7_824 : Index := 7#32
  let c0_825 : Index := 0#32
  let c0_826 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  let v1017 : BitVec 32 := v1016
  let v1074 : Index := Scalar.indexCast v1017
  ![7, 0, 0, v1074.toNat]
def k0_mult2 (k0_t1 : Fin k0_t1_loop.trips) : BitVec 32 :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let c0_i32_830 : BitVec 32 := 0#32
  let v1083 : BitVec 32 := Scalar.addi v1082 c0_i32_830
  let c8_i32_831 : BitVec 32 := 8#32
  let v1084 : BitVec 32 := Scalar.muli v1083 c8_i32_831
  v1084
def k0_off9 (k0_t1 : Fin k0_t1_loop.trips) (c0_i32_830 : BitVec 32) : Fin 3 → Nat :=
  let c0_832 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let v1083 : BitVec 32 := Scalar.addi v1082 c0_i32_830
  let c8_i32_831 : BitVec 32 := 8#32
  let v1084 : BitVec 32 := Scalar.muli v1083 c8_i32_831
  let v1085 : BitVec 32 := v1084
  let v1086 : Index := Scalar.indexCast v1085
  let c0_833 : Index := 0#32
  ![0, v1086.toNat, 0]
def k0_off10 (k0_t1 : Fin k0_t1_loop.trips) (c0_i32_830 : BitVec 32) : Fin 3 → Nat :=
  let c1_834 : Index := 1#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let v1083 : BitVec 32 := Scalar.addi v1082 c0_i32_830
  let c8_i32_831 : BitVec 32 := 8#32
  let v1084 : BitVec 32 := Scalar.muli v1083 c8_i32_831
  let v1085 : BitVec 32 := v1084
  let v1091 : Index := Scalar.indexCast v1085
  let c0_835 : Index := 0#32
  ![1, v1091.toNat, 0]
def k0_off11 (k0_t1 : Fin k0_t1_loop.trips) (c0_i32_830 : BitVec 32) : Fin 3 → Nat :=
  let c2_836 : Index := 2#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let v1083 : BitVec 32 := Scalar.addi v1082 c0_i32_830
  let c8_i32_831 : BitVec 32 := 8#32
  let v1084 : BitVec 32 := Scalar.muli v1083 c8_i32_831
  let v1085 : BitVec 32 := v1084
  let v1096 : Index := Scalar.indexCast v1085
  let c0_837 : Index := 0#32
  ![2, v1096.toNat, 0]
def k0_off12 (k0_t1 : Fin k0_t1_loop.trips) (c0_i32_830 : BitVec 32) : Fin 3 → Nat :=
  let c3_838 : Index := 3#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let v1083 : BitVec 32 := Scalar.addi v1082 c0_i32_830
  let c8_i32_831 : BitVec 32 := 8#32
  let v1084 : BitVec 32 := Scalar.muli v1083 c8_i32_831
  let v1085 : BitVec 32 := v1084
  let v1101 : Index := Scalar.indexCast v1085
  let c0_839 : Index := 0#32
  ![3, v1101.toNat, 0]
def k0_off13 (k0_t1 : Fin k0_t1_loop.trips) (c0_i32_830 : BitVec 32) : Fin 3 → Nat :=
  let c4_840 : Index := 4#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let v1083 : BitVec 32 := Scalar.addi v1082 c0_i32_830
  let c8_i32_831 : BitVec 32 := 8#32
  let v1084 : BitVec 32 := Scalar.muli v1083 c8_i32_831
  let v1085 : BitVec 32 := v1084
  let v1106 : Index := Scalar.indexCast v1085
  let c0_841 : Index := 0#32
  ![4, v1106.toNat, 0]
def k0_off14 (k0_t1 : Fin k0_t1_loop.trips) (c0_i32_830 : BitVec 32) : Fin 3 → Nat :=
  let c5_842 : Index := 5#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let v1083 : BitVec 32 := Scalar.addi v1082 c0_i32_830
  let c8_i32_831 : BitVec 32 := 8#32
  let v1084 : BitVec 32 := Scalar.muli v1083 c8_i32_831
  let v1085 : BitVec 32 := v1084
  let v1111 : Index := Scalar.indexCast v1085
  let c0_843 : Index := 0#32
  ![5, v1111.toNat, 0]
def k0_off15 (k0_t1 : Fin k0_t1_loop.trips) (c0_i32_830 : BitVec 32) : Fin 3 → Nat :=
  let c6_844 : Index := 6#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let v1083 : BitVec 32 := Scalar.addi v1082 c0_i32_830
  let c8_i32_831 : BitVec 32 := 8#32
  let v1084 : BitVec 32 := Scalar.muli v1083 c8_i32_831
  let v1085 : BitVec 32 := v1084
  let v1116 : Index := Scalar.indexCast v1085
  let c0_845 : Index := 0#32
  ![6, v1116.toNat, 0]
def k0_off16 (k0_t1 : Fin k0_t1_loop.trips) (c0_i32_830 : BitVec 32) : Fin 3 → Nat :=
  let c7_846 : Index := 7#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let v1083 : BitVec 32 := Scalar.addi v1082 c0_i32_830
  let c8_i32_831 : BitVec 32 := 8#32
  let v1084 : BitVec 32 := Scalar.muli v1083 c8_i32_831
  let v1085 : BitVec 32 := v1084
  let v1121 : Index := Scalar.indexCast v1085
  let c0_847 : Index := 0#32
  ![7, v1121.toNat, 0]
def k0_off17 (k0_t1 : Fin k0_t1_loop.trips) (c0_i32_830 : BitVec 32) : Fin 2 → Nat :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32 : BitVec 32 := 8#32
  let v1082 : BitVec 32 := Scalar.muli v1015 c8_i32
  let v1083 : BitVec 32 := Scalar.addi v1082 c0_i32_830
  let c8_i32_831 : BitVec 32 := 8#32
  let v1084 : BitVec 32 := Scalar.muli v1083 c8_i32_831
  let v1085 : BitVec 32 := v1084
  let v2430 : Index := Scalar.indexCast v1085
  let c0_978 : Index := 0#32
  ![v2430.toNat, 0]
def k0_mult3 (k0_t1 : Fin k0_t1_loop.trips) : BitVec 32 :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32_1003 : BitVec 32 := 8#32
  let v2531 : BitVec 32 := Scalar.muli v1015 c8_i32_1003
  let c1_i32_1004 : BitVec 32 := 1#32
  let v2532 : BitVec 32 := Scalar.addi v2531 c1_i32_1004
  let c8_i32_1005 : BitVec 32 := 8#32
  let v2533 : BitVec 32 := Scalar.muli v2532 c8_i32_1005
  v2533
def k0_mult4 (k0_t1 : Fin k0_t1_loop.trips) : BitVec 32 :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32_1182 : BitVec 32 := 8#32
  let v3980 : BitVec 32 := Scalar.muli v1015 c8_i32_1182
  let c2_i32 : BitVec 32 := 2#32
  let v3981 : BitVec 32 := Scalar.addi v3980 c2_i32
  let c8_i32_1183 : BitVec 32 := 8#32
  let v3982 : BitVec 32 := Scalar.muli v3981 c8_i32_1183
  v3982
def k0_mult5 (k0_t1 : Fin k0_t1_loop.trips) : BitVec 32 :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32_1360 : BitVec 32 := 8#32
  let v5429 : BitVec 32 := Scalar.muli v1015 c8_i32_1360
  let c3_i32 : BitVec 32 := 3#32
  let v5430 : BitVec 32 := Scalar.addi v5429 c3_i32
  let c8_i32_1361 : BitVec 32 := 8#32
  let v5431 : BitVec 32 := Scalar.muli v5430 c8_i32_1361
  v5431
def k0_mult6 (k0_t1 : Fin k0_t1_loop.trips) : BitVec 32 :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32_1538 : BitVec 32 := 8#32
  let v6878 : BitVec 32 := Scalar.muli v1015 c8_i32_1538
  let c4_i32_1539 : BitVec 32 := 4#32
  let v6879 : BitVec 32 := Scalar.addi v6878 c4_i32_1539
  let c8_i32_1540 : BitVec 32 := 8#32
  let v6880 : BitVec 32 := Scalar.muli v6879 c8_i32_1540
  v6880
def k0_mult7 (k0_t1 : Fin k0_t1_loop.trips) : BitVec 32 :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32_1717 : BitVec 32 := 8#32
  let v8327 : BitVec 32 := Scalar.muli v1015 c8_i32_1717
  let c5_i32 : BitVec 32 := 5#32
  let v8328 : BitVec 32 := Scalar.addi v8327 c5_i32
  let c8_i32_1718 : BitVec 32 := 8#32
  let v8329 : BitVec 32 := Scalar.muli v8328 c8_i32_1718
  v8329
def k0_mult8 (k0_t1 : Fin k0_t1_loop.trips) : BitVec 32 :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32_1895 : BitVec 32 := 8#32
  let v9776 : BitVec 32 := Scalar.muli v1015 c8_i32_1895
  let c6_i32 : BitVec 32 := 6#32
  let v9777 : BitVec 32 := Scalar.addi v9776 c6_i32
  let c8_i32_1896 : BitVec 32 := 8#32
  let v9778 : BitVec 32 := Scalar.muli v9777 c8_i32_1896
  v9778
def k0_mult9 (k0_t1 : Fin k0_t1_loop.trips) : BitVec 32 :=
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c8_i32_2073 : BitVec 32 := 8#32
  let v11225 : BitVec 32 := Scalar.muli v1015 c8_i32_2073
  let c7_i32_2074 : BitVec 32 := 7#32
  let v11226 : BitVec 32 := Scalar.addi v11225 c7_i32_2074
  let c8_i32_2075 : BitVec 32 := 8#32
  let v11227 : BitVec 32 := Scalar.muli v11226 c8_i32_2075
  v11227
def k0_off18 (k0_t1 : Fin k0_t1_loop.trips) : Fin 3 → Nat :=
  let c0_2254 : Index := 0#32
  let c0_2255 : Index := 0#32
  let c0_i32_781 : BitVec 32 := 0#32
  let c0_i32 : BitVec 32 := 0#32
  let c1_i32 : BitVec 32 := 1#32
  let arg12 : BitVec 32 := Scf.iv c0_i32 c1_i32 k0_t1
  let c1_i32_780 : BitVec 32 := 1#32
  let v1014 : BitVec 32 := Scalar.muli arg12 c1_i32_780
  let v1015 : BitVec 32 := Scalar.addi c0_i32_781 v1014
  let c128_i32 : BitVec 32 := 128#32
  let v1016 : BitVec 32 := Scalar.muli v1015 c128_i32
  let v1017 : BitVec 32 := v1016
  let v12677 : Index := Scalar.indexCast v1017
  ![0, 0, v12677.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x512x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x512x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F]
-- ==== ReferenceIdeal.lean ====
abbrev S8x12x1024x1536 : Shape := ⟨4, ![8, 12, 1024, 1536]⟩
abbrev S8x12x1024x96 : Shape := ⟨4, ![8, 12, 1024, 96]⟩
abbrev S_ : Shape := ⟨0, ![]⟩
abbrev S8x12x1024x96x16 : Shape := ⟨5, ![8, 12, 1024, 96, 16]⟩
abbrev S8x12x1024x96x1 : Shape := ⟨5, ![8, 12, 1024, 96, 1]⟩
abbrev S12x1024x96x16 : Shape := ⟨4, ![12, 1024, 96, 16]⟩
abbrev S12x1024x96 : Shape := ⟨3, ![12, 1024, 96]⟩
abbrev S12x1024x96x1 : Shape := ⟨4, ![12, 1024, 96, 1]⟩
abbrev S12x1024x1536 : Shape := ⟨3, ![12, 1024, 1536]⟩

abbrev nBuf : Space → Nat
  | .hbm => 94
  | .vmem => 0
  | .smem => 0
  | _ => 0

abbrev bufTy : (tb : Table) → Fin (tcTables nBuf tb) → BufTy
  | .hbm, ⟨0, _⟩ => ⟨S8x12x1024x1536, .i8⟩
  | .hbm, ⟨1, _⟩ => ⟨S8x12x1024x96, .f32⟩
  | .hbm, ⟨2, _⟩ => ⟨S8x12x1024x1536, .i32⟩
  | .hbm, ⟨3, _⟩ => ⟨S_, .i32⟩
  | .hbm, ⟨4, _⟩ => ⟨S8x12x1024x1536, .i32⟩
  | .hbm, ⟨5, _⟩ => ⟨S8x12x1024x1536, .i32⟩
  | .hbm, ⟨6, _⟩ => ⟨S_, .i32⟩
  | .hbm, ⟨7, _⟩ => ⟨S8x12x1024x1536, .i32⟩
  | .hbm, ⟨8, _⟩ => ⟨S8x12x1024x1536, .i32⟩
  | .hbm, ⟨9, _⟩ => ⟨S_, .i32⟩
  | .hbm, ⟨10, _⟩ => ⟨S8x12x1024x1536, .i32⟩
  | .hbm, ⟨11, _⟩ => ⟨S8x12x1024x1536, .i1⟩
  | .hbm, ⟨12, _⟩ => ⟨S_, .i32⟩
  | .hbm, ⟨13, _⟩ => ⟨S8x12x1024x1536, .i32⟩
  | .hbm, ⟨14, _⟩ => ⟨S8x12x1024x1536, .i32⟩
  | .hbm, ⟨15, _⟩ => ⟨S8x12x1024x1536, .i32⟩
  | .hbm, ⟨16, _⟩ => ⟨S_, .i32⟩
  | .hbm, ⟨17, _⟩ => ⟨S8x12x1024x1536, .i32⟩
  | .hbm, ⟨18, _⟩ => ⟨S8x12x1024x1536, .i1⟩
  | .hbm, ⟨19, _⟩ => ⟨S_, .i32⟩
  | .hbm, ⟨20, _⟩ => ⟨S8x12x1024x1536, .i32⟩
  | .hbm, ⟨21, _⟩ => ⟨S8x12x1024x1536, .i32⟩
  | .hbm, ⟨22, _⟩ => ⟨S8x12x1024x1536, .i32⟩
  | .hbm, ⟨23, _⟩ => ⟨S8x12x1024x96x16, .i32⟩
  | .hbm, ⟨24, _⟩ => ⟨S8x12x1024x96x16, .i32⟩
  | .hbm, ⟨25, _⟩ => ⟨S8x12x1024x96x1, .f32⟩
  | .hbm, ⟨26, _⟩ => ⟨S8x12x1024x96x16, .f32⟩
  | .hbm, ⟨27, _⟩ => ⟨S8x12x1024x96x16, .f32⟩
  | .hbm, ⟨28, _⟩ => ⟨S8x12x1024x96x16, .f32⟩
  | .hbm, ⟨29, _⟩ => ⟨S_, .f32⟩
  | .hbm, ⟨30, _⟩ => ⟨S12x1024x96x16, .f32⟩
  | .hbm, ⟨31, _⟩ => ⟨S8x12x1024x96x16, .f32⟩
  | .hbm, ⟨32, _⟩ => ⟨S8x12x1024x96x16, .f32⟩
  | .hbm, ⟨33, _⟩ => ⟨S8x12x1024x96x16, .f32⟩
  | .hbm, ⟨34, _⟩ => ⟨S_, .f32⟩
  | .hbm, ⟨35, _⟩ => ⟨S12x1024x96x16, .f32⟩
  | .hbm, ⟨36, _⟩ => ⟨S12x1024x96x16, .f32⟩
  | .hbm, ⟨37, _⟩ => ⟨S_, .f32⟩
  | .hbm, ⟨38, _⟩ => ⟨S12x1024x96, .f32⟩
  | .hbm, ⟨39, _⟩ => ⟨S12x1024x96x16, .f32⟩
  | .hbm, ⟨40, _⟩ => ⟨S_, .f32⟩
  | .hbm, ⟨41, _⟩ => ⟨S12x1024x96, .f32⟩
  | .hbm, ⟨42, _⟩ => ⟨S12x1024x96, .f32⟩
  | .hbm, ⟨43, _⟩ => ⟨S_, .f32⟩
  | .hbm, ⟨44, _⟩ => ⟨S12x1024x96, .f32⟩
  | .hbm, ⟨45, _⟩ => ⟨S12x1024x96, .i1⟩
  | .hbm, ⟨46, _⟩ => ⟨S_, .f32⟩
  | .hbm, ⟨47, _⟩ => ⟨S12x1024x96, .f32⟩
  | .hbm, ⟨48, _⟩ => ⟨S12x1024x96, .f32⟩
  | .hbm, ⟨49, _⟩ => ⟨S_, .f32⟩
  | .hbm, ⟨50, _⟩ => ⟨S12x1024x96, .f32⟩
  | .hbm, ⟨51, _⟩ => ⟨S12x1024x96, .f32⟩
  | .hbm, ⟨52, _⟩ => ⟨S12x1024x96x1, .f32⟩
  | .hbm, ⟨53, _⟩ => ⟨S12x1024x96x16, .f32⟩
  | .hbm, ⟨54, _⟩ => ⟨S12x1024x96x16, .f32⟩
  | .hbm, ⟨55, _⟩ => ⟨S12x1024x96x16, .f32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S12x1024x96x16, .f32⟩
  | .hbm, ⟨60, _⟩ => ⟨S12x1024x96x16, .f32⟩
  | .hbm, ⟨61, _⟩ => ⟨S_, .f32⟩
  | .hbm, ⟨62, _⟩ => ⟨S12x1024x96x16, .f32⟩
  | .hbm, ⟨63, _⟩ => ⟨S12x1024x96x16, .f32⟩
  | .hbm, ⟨64, _⟩ => ⟨S12x1024x96x16, .i32⟩
  | .hbm, ⟨65, _⟩ => ⟨S12x1024x96x1, .f32⟩
  | .hbm, ⟨66, _⟩ => ⟨S12x1024x96x16, .f32⟩
  | .hbm, ⟨67, _⟩ => ⟨S12x1024x96x16, .f32⟩
  | .hbm, ⟨68, _⟩ => ⟨S12x1024x96x16, .f32⟩
  | .hbm, ⟨69, _⟩ => ⟨S_, .i32⟩
  | .hbm, ⟨70, _⟩ => ⟨S_, .i32⟩
  | .hbm, ⟨71, _⟩ => ⟨S_, .f32⟩
  | .hbm, ⟨72, _⟩ => ⟨S12x1024x96x16, .f32⟩
  | .hbm, ⟨73, _⟩ => ⟨S12x1024x96x16, .f32⟩
  | .hbm, ⟨74, _⟩ => ⟨S_, .f32⟩
  | .hbm, ⟨75, _⟩ => ⟨S12x1024x96x16, .f32⟩
  | .hbm, ⟨76, _⟩ => ⟨S12x1024x96x16, .f32⟩
  | .hbm, ⟨77, _⟩ => ⟨S12x1024x96x16, .i32⟩
  | .hbm, ⟨78, _⟩ => ⟨S12x1024x96x16, .i32⟩
  | .hbm, ⟨79, _⟩ => ⟨S12x1024x96x16, .i32⟩
  | .hbm, ⟨80, _⟩ => ⟨S12x1024x96, .f32⟩
  | .hbm, ⟨81, _⟩ => ⟨S12x1024x1536, .i32⟩
  | .hbm, ⟨82, _⟩ => ⟨S12x1024x1536, .i32⟩
  | .hbm, ⟨83, _⟩ => ⟨S_, .i32⟩
  | .hbm, ⟨84, _⟩ => ⟨S12x1024x1536, .i32⟩
  | .hbm, ⟨85, _⟩ => ⟨S12x1024x1536, .i32⟩
  | .hbm, ⟨86, _⟩ => ⟨S_, .i32⟩
  | .hbm, ⟨87, _⟩ => ⟨S12x1024x1536, .i32⟩
  | .hbm, ⟨88, _⟩ => ⟨S12x1024x1536, .i32⟩
  | .hbm, ⟨89, _⟩ => ⟨S_, .i32⟩
  | .hbm, ⟨90, _⟩ => ⟨S12x1024x1536, .i32⟩
  | .hbm, ⟨91, _⟩ => ⟨S12x1024x1536, .i32⟩
  | .hbm, ⟨92, _⟩ => ⟨S12x1024x1536, .i32⟩
  | .hbm, ⟨93, _⟩ => ⟨S12x1024x1536, .i8⟩
  | _, _ => ⟨S8x12x1024x1536, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_call2_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_11 : Ref sig .tc := ⟨.hbm, 56, rfl⟩
abbrev main_c_12 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_c_14 : Ref sig .tc := ⟨.hbm, 70, rfl⟩
abbrev main_call6_v0 : Ref sig .tc := ⟨.hbm, 71, rfl⟩
abbrev main_call6_v1 : Ref sig .tc := ⟨.hbm, 72, rfl⟩
abbrev main_call6_v2 : Ref sig .tc := ⟨.hbm, 73, rfl⟩
abbrev main_call6_v3 : Ref sig .tc := ⟨.hbm, 74, rfl⟩
abbrev main_call6_v4 : Ref sig .tc := ⟨.hbm, 75, rfl⟩
abbrev main_v46 : Ref sig .tc := ⟨.hbm, 76, rfl⟩
abbrev main_v47 : Ref sig .tc := ⟨.hbm, 77, rfl⟩
abbrev main_v48_0 : Ref sig .tc := ⟨.hbm, 78, rfl⟩
abbrev main_v48_1 : Ref sig .tc := ⟨.hbm, 79, rfl⟩
abbrev main_v48_2 : Ref sig .tc := ⟨.hbm, 80, rfl⟩
abbrev main_v49 : Ref sig .tc := ⟨.hbm, 81, rfl⟩
abbrev main_v50 : Ref sig .tc := ⟨.hbm, 82, rfl⟩
abbrev main_c_15 : Ref sig .tc := ⟨.hbm, 83, rfl⟩
abbrev main_v51 : Ref sig .tc := ⟨.hbm, 84, rfl⟩
abbrev main_v52 : Ref sig .tc := ⟨.hbm, 85, rfl⟩
abbrev main_c_16 : Ref sig .tc := ⟨.hbm, 86, rfl⟩
abbrev main_v53 : Ref sig .tc := ⟨.hbm, 87, rfl⟩
abbrev main_v54 : Ref sig .tc := ⟨.hbm, 88, rfl⟩
abbrev main_c_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩

abbrev nD : Nat := 1
abbrev τ : Topo := Topo.v7x

variable {F : FTy → Type} [FloatOps F]
-- ==== Proof.RefRead.lean ====
module

public import proofs.«01_k».proof.Proof.Gen.ReferenceIdeal.Run
public import proofs.«01_k».proof.Proof.Gen.ReferenceIdeal.Read
-- ==== Proof.KernelFrame.lean ====
/-
The kernel's frame: every grid point runs to its return, leaving the two input arrays as it found them.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 4000000 in
/-- The body's triple, for any continuation: from the two inputs' staging memrefs at given blocks and every other memref at
    anything, the kernel runs to its return, handing back the inputs as they were and the rest at some contents. -/
theorem kernelRun (c : Dev nD) (i : grid0.Coords)
    (arg2 : Memref sig .tc .vmem S8x1x512x1536 .i8) (harg2 : arg2.IsWhole) (arg3 : Memref sig .tc .vmem S8x1x512x96 .f32) (harg3 : arg3.IsWhole)
    (arg4 : Memref sig .tc .vmem S1x512x1536 .i8) (harg4 : arg4.IsWhole) (arg5 : Memref sig .tc .vmem S1x512x96 .f32) (harg5 : arg5.IsWhole)
    (arg6 : Memref sig .tc .vmem S8x768x128 .f32) (harg6 : arg6.IsWhole) (arg7 : Memref sig .tc .vmem S8x768x128 .f32) (harg7 : arg7.IsWhole)
    (arg8 : Memref sig .tc .vmem S8x768x128 .f32) (harg8 : arg8.IsWhole) (arg9 : Memref sig .tc .vmem S8x128x128 .i32) (harg9 : arg9.IsWhole)
    (arg10 : Memref sig .tc .vmem S128x128 .i32) (harg10 : arg10.IsWhole) (arg11 : Memref sig .tc .vmem S768x128 .f32) (harg11 : arg11.IsWhole)
    (x2 : S8x1x512x1536.Idx → Elt F .i8) (x3 : S8x1x512x96.Idx → Elt F .f32) (K : PUnit → sProp 𝕄) :
    iprop(owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3
          ∗ (∃ d, owns (c : Thread nD τ) arg4 fullShare d) ∗ (∃ d, owns (c : Thread nD τ) arg5 fullShare d)
          ∗ (∃ d, owns (c : Thread nD τ) arg6 fullShare d) ∗ (∃ d, owns (c : Thread nD τ) arg7 fullShare d)
          ∗ (∃ d, owns (c : Thread nD τ) arg8 fullShare d) ∗ (∃ d, owns (c : Thread nD τ) arg9 fullShare d)
          ∗ (∃ d, owns (c : Thread nD τ) arg10 fullShare d) ∗ (∃ d, owns (c : Thread nD τ) arg11 fullShare d)) -∗ K ⟨⟩))
      ⊢ wp frame (wpE (defs₀ (F := F)) Variants.none c none) Set.univ
          (cc0__hop_kernel i arg2 harg2 arg3 harg3 arg4 harg4 arg5 harg5 arg6 harg6 arg7 harg7 arg8 harg8 arg9 harg9 arg10 harg10 arg11 harg11) K := by
  simp only [cc0__hop_kernel_eq_skeleton]; unfold cc0__hop_kernel_skel
  unfold owns
  iintro ⟨⟨%f2, %h2, H2⟩, ⟨%f3, %h3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec
  sl_step
  iapply Hk
  isplitl [H2]
  · iexists _; isplitr; swap; · iexact H2
    ipureintro; exact h2
  isplitl [H3]
  · iexists _; isplitr; swap; · iexact H3
    ipureintro; exact h3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## The proof data and the body obligation -/

/-- The two output windows, FORGOTTEN: the frame says nothing of what the kernel leaves in them. -/
def forgets0 : Fin 4 → Bool := ![false, false, true, true]

/-- The proof data on core `c`: the arrays as the region finds them; the inputs' blocks left in place, what the body leaves in the
    outputs unnamed; the scratch between the points at any contents; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => Pipeline.Dat.unnamed (cfg := cfg0) 2 t
    | 3 => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]
theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d

/-- The scratch held at some contents, memref by memref, and the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
        ∗ (∃ r, prngReg c r)) := by
  unfold Pipeline.ΦA; rw [scopedRest0_eq]; simp only [owns_whole]; try rfl

/-- What the body is called with at point `t`, and what it returns: the inputs' staging memrefs at their blocks, the outputs' at
    any contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d) ∗ (∃ d, owns (c : Thread nD τ) (st0_3 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d) ∗ (∃ d, owns (c : Thread nD τ) (st0_3 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    show (dats m 0 c).after 0 t = iblk m c 0 t from rfl, show (dats m 0 c).after 1 t = iblk m c 1 t from rfl]
  simp only [before0_0, before0_1]
  iintro ⟨⟨⟨S0, S1, S2, S3, S4, S5⟩, Hg⟩, HO, ⟨%d0, H0⟩, ⟨%d1, H1⟩, H2, H3⟩
  iapply (kernelRun c (grid0.coords t) (st0_0 t) _ (st0_1 t) _ (st0_2 t) _ (st0_3 t) _ _ _ _ _ _ _ _ _ _ _ _ _ (iblk m c 0 t) (iblk m c 1 t) _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, H3, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [H0]; · iexact H0
  isplitl [H1]; · iexact H1
  isplitl [H2]; · iexact H2
  iexact H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the implicit arguments are found by unifying the conclusion with this statement, which unifies only when unification may
-- unfold plain definitions in a metavariable's type
set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the run an input array holds what it held at launch. -/
theorem final_arg0 {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0) :=
  (((dats m 0 c).toRForget_arrAt_iff (fgt := forgets0) (w := 0) rfl _ _).mp ((h c).1 0)).trans (((dats m 0 c).arrAt_in 0 rfl _).trans ((A_eq m c 0).trans (V_main_arg0 m c)))
theorem final_arg1 {r : PUnit × MemSt nD τ sig (Elt F)}
    (h : Pipeline.RDat.FramePost (cfgs 0) (fun c => (dats (F := F) m 0 c).toRForget forgets0) (V m) r) (c : Dev nD) :
    r.2.mem ((c : Thread nD τ).loc main_arg1) = m ((c : Thread nD τ).loc main_arg1) :=
  (((dats m 0 c).toRForget_arrAt_iff (fgt := forgets0) (w := 1) rfl _ _).mp ((h c).1 1)).trans (((dats m 0 c).arrAt_in 1 rfl _).trans ((A_eq m c 1).trans (V_main_arg1 m c)))

end Cert.Kernel.Hand

end
-- ==== Proof.KernelIdealFrame.lean ====
/-
The kernel's frame: every grid point runs to its return, leaving the two input arrays as it found them.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 4000000 in
/-- The body's triple, for any continuation: from the two inputs' staging memrefs at given blocks and every other memref at
    anything, the kernel runs to its return, handing back the inputs as they were and the rest at some contents. -/
theorem kernelRun (c : Dev nD) (i : grid0.Coords)
    (arg2 : Memref sig .tc .vmem S8x1x512x1536 .i8) (harg2 : arg2.IsWhole) (arg3 : Memref sig .tc .vmem S8x1x512x96 .f32) (harg3 : arg3.IsWhole)
    (arg4 : Memref sig .tc .vmem S1x512x1536 .i8) (harg4 : arg4.IsWhole) (arg5 : Memref sig .tc .vmem S1x512x96 .f32) (harg5 : arg5.IsWhole)
    (arg6 : Memref sig .tc .vmem S8x768x128 .f32) (harg6 : arg6.IsWhole) (arg7 : Memref sig .tc .vmem S8x768x128 .f32) (harg7 : arg7.IsWhole)
    (arg8 : Memref sig .tc .vmem S8x768x128 .f32) (harg8 : arg8.IsWhole) (arg9 : Memref sig .tc .vmem S8x128x128 .i32) (harg9 : arg9.IsWhole)
    (arg10 : Memref sig .tc .vmem S128x128 .i32) (harg10 : arg10.IsWhole) (arg11 : Memref sig .tc .vmem S768x128 .f32) (harg11 : arg11.IsWhole)
    (x2 : S8x1x512x1536.Idx → Elt F .i8) (x3 : S8x1x512x96.Idx → Elt F .f32) (K : PUnit → sProp 𝕄) :
    iprop(owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3
          ∗ (∃ d, owns (c : Thread nD τ) arg4 fullShare d) ∗ (∃ d, owns (c : Thread nD τ) arg5 fullShare d)
          ∗ (∃ d, owns (c : Thread nD τ) arg6 fullShare d) ∗ (∃ d, owns (c : Thread nD τ) arg7 fullShare d)
          ∗ (∃ d, owns (c : Thread nD τ) arg8 fullShare d) ∗ (∃ d, owns (c : Thread nD τ) arg9 fullShare d)
          ∗ (∃ d, owns (c : Thread nD τ) arg10 fullShare d) ∗ (∃ d, owns (c : Thread nD τ) arg11 fullShare d)) -∗ K ⟨⟩))
      ⊢ wp frame (wpE (defs₀ (F := F)) Variants.none c none) Set.univ
          (cc0__hop_kernel i arg2 harg2 arg3 harg3 arg4 harg4 arg5 harg5 arg6 harg6 arg7 harg7 arg8 harg8 arg9 harg9 arg10 harg10 arg11 harg11) K := by
  simp only [cc0__hop_kernel_eq_skeleton]; unfold cc0__hop_kernel_skel
  unfold owns
  iintro ⟨⟨%f2, %h2, H2⟩, ⟨%f3, %h3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec
  sl_step
  iapply Hk
  isplitl [H2]
  · iexists _; isplitr; swap; · iexact H2
    ipureintro; exact h2
  isplitl [H3]
  · iexists _; isplitr; swap; · iexact H3
    ipureintro; exact h3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## The proof data and the body obligation -/

/-- The two output windows, FORGOTTEN: the frame says nothing of what the kernel leaves in them. -/
def forgets0 : Fin 4 → Bool := ![false, false, true, true]

/-- The proof data on core `c`: the arrays as the region finds them; the inputs' blocks left in place, what the body leaves in the
    outputs unnamed; the scratch between the points at any contents; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => Pipeline.Dat.unnamed (cfg := cfg0) 2 t
    | 3 => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]
theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d

/-- The scratch held at some contents, memref by memref, and the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
        ∗ (∃ r, prngReg c r)) := by
  unfold Pipeline.ΦA; rw [scopedRest0_eq]; simp only [owns_whole]; try rfl

/-- What the body is called with at point `t`, and what it returns: the inputs' staging memrefs at their blocks, the outputs' at
    any contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d) ∗ (∃ d, owns (c : Thread nD τ) (st0_3 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d) ∗ (∃ d, owns (c : Thread nD τ) (st0_3 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    show (dats m 0 c).after 0 t = iblk m c 0 t from rfl, show (dats m 0 c).after 1 t = iblk m c 1 t from rfl]
  simp only [before0_0, before0_1]
  iintro ⟨⟨⟨S0, S1, S2, S3, S4, S5⟩, Hg⟩, HO, ⟨%d0, H0⟩, ⟨%d1, H1⟩, H2, H3⟩
  iapply (kernelRun c (grid0.coords t) (st0_0 t) _ (st0_1 t) _ (st0_2 t) _ (st0_3 t) _ _ _ _ _ _ _ _ _ _ _ _ _ (iblk m c 0 t) (iblk m c 1 t) _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, H3, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [H0]; · iexact H0
  isplitl [H1]; · iexact H1
  isplitl [H2]; · iexact H2
  iexact H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the implicit arguments are found by unifying the conclusion with this statement, which unifies only when unification may
-- unfold plain definitions in a metavariable's type
set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the run an input array holds what it held at launch. -/
theorem final_arg0 {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0) :=
  (((dats m 0 c).toRForget_arrAt_iff (fgt := forgets0) (w := 0) rfl _ _).mp ((h c).1 0)).trans (((dats m 0 c).arrAt_in 0 rfl _).trans ((A_eq m c 0).trans (V_main_arg0 m c)))
theorem final_arg1 {r : PUnit × MemSt nD τ sig (Elt F)}
    (h : Pipeline.RDat.FramePost (cfgs 0) (fun c => (dats (F := F) m 0 c).toRForget forgets0) (V m) r) (c : Dev nD) :
    r.2.mem ((c : Thread nD τ).loc main_arg1) = m ((c : Thread nD τ).loc main_arg1) :=
  (((dats m 0 c).toRForget_arrAt_iff (fgt := forgets0) (w := 1) rfl _ _).mp ((h c).1 1)).trans (((dats m 0 c).arrAt_in 1 rfl _).trans ((A_eq m c 1).trans (V_main_arg1 m c)))

end Cert.KernelIdeal.Hand

end
-- ==== Proof.Block.lean ====
module

public import proofs.«01_k».proof.Proof.Gen.KernelIdeal.Skeleton

@[expose] public section

noncomputable section

/-! What the kernel computes for one block of the quantization, as a function of the vectors it reads:
the scale pieces of the eight tensors and their packed code words. -/

namespace Cert.KernelIdeal.Hand

open Idealize.ShloMosaic Cert.KernelIdeal Cert.KernelIdeal.Gen

variable {F : FTy → Type} [FloatOps F]

theorem slicesQ (q : Fin 4) : S64x128.Slices ![16 * q.val, 0] S16x128 := by
  revert q; decide

/-- One product of the contraction: 16 rows of codes times a tensor's piece of the scale. -/
def prodV (w : Vec F S1x8x128 .i32) (p : Vec F S1x8x128 .f32) (q : Fin 4) : FVec F S16x128 .f32 :=
  mulf (extf .f32 (extractStridedSlice S16x128 ![16 * q.val, 0] (k0_pay39 w) (slicesQ q)) bitsLt_bf16_f32)
    (extf .f32 (k0_pay13 p) bitsLt_bf16_f32)

/-- The contraction of 16 rows: the third pieces of the scales first, the first pieces last. -/
def accV (P : Fin 3 → Fin 8 → Vec F S1x8x128 .f32) (W : Fin 2 → Fin 8 → Vec F S1x8x128 .i32)
    (h : Fin 2) (q : Fin 4) : FVec F S16x128 .f32 :=
  have t (s : Fin 3) (n : Fin 8) : FVec F S16x128 .f32 := prodV (W h n) (P s n) q
  addf (addf (addf (addf (addf (addf (addf (addf
   (addf (addf (addf (addf (addf (addf (addf (addf
    (addf (addf (addf (addf (addf (addf (addf (t 2 0) (t 2 1)) (t 2 2)) (t 2 3)) (t 2 4)) (t 2 5)) (t 2 6)) (t 2 7))
    (t 1 0)) (t 1 1)) (t 1 2)) (t 1 3)) (t 1 4)) (t 1 5)) (t 1 6)) (t 1 7))
    (t 0 0)) (t 0 1)) (t 0 2)) (t 0 3)) (t 0 4)) (t 0 5)) (t 0 6)) (t 0 7)

/-- The largest magnitude over the eight groups of 16 rows. -/
def max8V (A : Fin 2 → Fin 4 → FVec F S16x128 .f32) : FVec F S16x128 .f32 :=
  maximumf (maximumf (maximumf (maximumf (maximumf (maximumf (maximumf (absf (A 0 0)) (absf (A 0 1)))
    (absf (A 0 2))) (absf (A 0 3))) (absf (A 1 0))) (absf (A 1 1))) (absf (A 1 2))) (absf (A 1 3))

/-- The largest magnitude of the block, in both rows of a pair. -/
def pairMaxV (sub : IVec S8x128 32) (m : FVec F S16x128 .f32) : FVec F S8x128 .f32 :=
  have a : FVec F S8x128 .f32 := maximumf (extractStridedSlice S8x128 ![0, 0] m slices_S16x128_o0_0_S8x128)
    (extractStridedSlice S8x128 ![8, 0] m slices_S16x128_o8_0_S8x128)
  maximumf a (select (cmpi .eq (andi sub (broadcast S8x128 1#32)) (broadcast S8x128 0#32))
    (dynamicRotate 0 7#32 none a rotates_S8x128_d0) (dynamicRotate 0 1#32 none a rotates_S8x128_d0))

/-- The scale of a block out of its largest magnitude. -/
def scaleOfV (a : FVec F S8x128 .f32) : FVec F S8x128 .f32 :=
  select (cmpf .oeq a (broadcast S8x128 (Scalar.ofBits .f32 0x00000000#32)))
    (broadcast S8x128 (Scalar.ofBits .f32 0x3F800000#32))
    (divf a (broadcast S8x128 (Scalar.ofBits .f32 0x40E00000#32)))

/-- The scale of a block. -/
def blkScale (sub : IVec S8x128 32) (P : Fin 3 → Fin 8 → Vec F S1x8x128 .f32)
    (W : Fin 2 → Fin 8 → Vec F S1x8x128 .i32) : FVec F S8x128 .f32 :=
  scaleOfV (pairMaxV sub (max8V (accV P W)))

/-- The codes of 16 rows. -/
def codeV (sc : FVec F S8x128 .f32) (a : FVec F S16x128 .f32) : IVec S16x128 32 :=
  fptosi 32 (minimumf (broadcast S16x128 (Scalar.sitofp .f32 7#32))
    (maximumf (broadcast S16x128 (Scalar.sitofp .f32 4294967289#32))
      (roundeven (divf a
        (concatenate S16x128 0 [⟨S8x128, sc⟩, ⟨S8x128, sc⟩] concatenates_S8x128_S8x128_S16x128_d0)))))

/-- Eight codes to a word, code `k` of a row at bits `4k`. -/
def packV (c : Fin 4 → IVec S16x128 32) : IVec S8x128 32 :=
  shapeCast S8x128 (multiReductionI .add [1] S8x128
    (shli (andi (shapeCast S8x8x128 (concatenate S64x128 0 [⟨S16x128, c 0⟩, ⟨S16x128, c 1⟩, ⟨S16x128, c 2⟩, ⟨S16x128, c 3⟩]
        concatenates_S16x128_S16x128_S16x128_S16x128_S64x128_d0) shapeCasts_S64x128_S8x8x128) (broadcast S8x8x128 15#32))
      (muli (broadcast S8x8x128 4#32) (iota .tc S8x8x128 32 [1] iota_S8x8x128_d1_w32)))
    0#32 reduces_S8x8x128_S8x128 rfl) shapeCasts_S8x128_S8x128

/-- The packed codes of one half of a block. -/
def blkWords (sub : IVec S8x128 32) (P : Fin 3 → Fin 8 → Vec F S1x8x128 .f32)
    (W : Fin 2 → Fin 8 → Vec F S1x8x128 .i32) (h : Fin 2) : IVec S8x128 32 :=
  packV (fun q => codeV (blkScale sub P W) (accV P W h q))

/-- A tensor's slab of bytes as words: rows are byte columns, lanes groups of four tokens. -/
def slabV (x : Vec F S1x1x512x128 .i8) : IVec S1x128x128 32 :=
  shapeCast S1x128x128 (transpose S128x128 [1, 0]
    (bitcast S128x128 32 (shapeCast S512x128 x shapeCasts_S1x1x512x128_S512x128 : IVec S512x128 8)
      bitcasts_S512x128_w8_S128x128_w32) transposes_S128x128_p1_0_S128x128) shapeCasts_S128x128_S1x128x128

end Cert.KernelIdeal.Hand
-- ==== Proof.Words.lean ====
module

public import proofs.«01_k».proof.Proof.Block
public import Idealize.ShloMosaic.Lib.Pipeline.Value
public import Idealize.ShloMosaic.Lib.BitcastFour
public import Idealize.ShloMosaic.Lib.ValueIdx

@[expose] public section

noncomputable section

/-! The code words of the kernel: four tokens' bytes of one column to a word, there and back. -/

namespace Cert.KernelIdeal.Hand

open Idealize.ShloMosaic Idealize.ShloMosaic.ValueIdx Cert.KernelIdeal Cert.KernelIdeal.Gen

variable {F : FTy → Type} [FloatOps F]

/-- Four bytes as one word, the first the lowest. -/
def word4 (b : Fin 4 → BitVec 8) : BitVec 32 :=
  (b 0).setWidth 32 ||| ((b 1).setWidth 32 <<< 8) ||| ((b 2).setWidth 32 <<< 16) ||| ((b 3).setWidth 32 <<< 24)

/-- Token `j` of the group of four tokens `r`. -/
def tok (r : Fin 128) (j : Fin 4) : Fin 512 := ⟨4 * r.val + j.val, by omega⟩

/-- A slab read at a byte column and a group of four tokens. -/
theorem slabV_apply (x : Vec F S1x1x512x128 .i8) (a r : Fin 128) :
    slabV (F := F) x (ix3 0 a r) = word4 fun j => x (ix4 0 0 (tok r j) a) := by
  unfold slabV
  rw [shapeCast_apply (t := S1x128x128) _ shapeCasts_S128x128_S1x128x128 (ix3 0 a r) (ix2 a r) (by
    rw [Shape.rowMajor_val_two, Shape.rowMajor_val_three]; simp)]
  rw [transpose_apply (t := S128x128) [1, 0] _ _ (ix2 a r) (ix2 r a) (by intro b; fin_cases b <;> rfl)]
  apply BitVec.eq_of_getLsbD_eq
  intro q hq
  rw [bitcast_8_32_getLsbD_ix2 _ bitcasts_S512x128_w8_S128x128_w32 r a q hq (tok r ⟨q / 8, by omega⟩) (by simp [tok]),
    word4, four_bytes_getLsbD (fun j => x (ix4 0 0 (tok r j) a)) q hq]
  congr 1
  refine shapeCast_apply (t := S512x128) _ shapeCasts_S1x1x512x128_S512x128 _ _ ?_
  rw [Shape.rowMajor_val_two, Shape.rowMajor_val_four]; simp

/-- The stored bytes read at a token and a byte column. -/
theorem outV_apply (w : IVec S128x128 32) (r : Fin 128) (j : Fin 4) (a : Fin 128) :
    shapeCast S1x512x128 (bitcast S512x128 8 (transpose S128x128 [1, 0] w transposes_S128x128_p1_0_S128x128)
      bitcasts_S128x128_w32_S512x128_w8) shapeCasts_S512x128_S1x512x128 (ix3 0 (tok r j) a)
      = (w (ix2 a r)).extractLsb' (8 * j.val) 8 := by
  rw [shapeCast_apply (t := S1x512x128) _ shapeCasts_S512x128_S1x512x128 (ix3 0 (tok r j) a) (ix2 (tok r j) a) (by
    rw [Shape.rowMajor_val_two, Shape.rowMajor_val_three]; simp)]
  apply BitVec.eq_of_getLsbD_eq
  intro q hq
  have hrow : Shape.row (s := S512x128) (ix2 (tok r j) a) = 4 * r.val + j.val := rfl
  rw [bitcast_getLsbD _ bitcasts_S128x128_w32_S512x128_w8 _ q hq (by decide), BitVec.getLsbD_extractLsb']
  have e1 : (Shape.row (s := S512x128) (ix2 (tok r j) a) * 8 + q) / 32 = r.val := by rw [hrow]; omega
  have e2 : (Shape.row (s := S512x128) (ix2 (tok r j) a) * 8 + q) % 32 = 8 * j.val + q := by rw [hrow]; omega
  rw [e2]
  simp only [hq, decide_true, Bool.true_and]
  congr 1
  refine transpose_apply (s := S128x128) (t := S128x128) [1, 0] _ _ _ (ix2 a r) ?_
  intro b
  match b with
  | ⟨0, _⟩ => exact ((bitcasts_S128x128_w32_S512x128_w8.srcIdx_row _ _ _ ⟨0, Nat.zero_lt_two⟩ rfl).trans e1).symm
  | ⟨1, _⟩ =>
    exact (bitcasts_S128x128_w32_S512x128_w8.srcIdx_other (ix2 (tok r j) a) _ _ ⟨1, Nat.one_lt_two⟩
      (by show ¬ 1 + 2 = 2; omega)).symm

end Cert.KernelIdeal.Hand
-- ==== Proof.Trip.lean ====
module

public import proofs.«01_k».proof.Proof.Gen.KernelIdeal.Loops
public import proofs.«01_k».proof.Proof.Words
public import Idealize.ShloMosaic.Lib.Pipeline.Value
public import Idealize.ShloMosaic.Lib.Pipeline.ValueKit.Geometry

@[expose] public section

set_option maxRecDepth 8192
set_option maxHeartbeats 400000

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open Idealize.ShloMosaic.Rounds

variable {F : FTy → Type} [FloatOps F] [∀ e, Nonempty (Elt F e)]

/-- Where block `b` of trip `k` reads the scales of tensor `n`, as the program computes it. -/
def offS (k : Fin k0_t1_loop.trips) (b : Fin 8) : Fin 8 → Fin 3 → Nat
  | 0 => k0_off9 k (BitVec.ofNat 32 b.val) | 1 => k0_off10 k (BitVec.ofNat 32 b.val)
  | 2 => k0_off11 k (BitVec.ofNat 32 b.val) | 3 => k0_off12 k (BitVec.ofNat 32 b.val)
  | 4 => k0_off13 k (BitVec.ofNat 32 b.val) | 5 => k0_off14 k (BitVec.ofNat 32 b.val)
  | 6 => k0_off15 k (BitVec.ofNat 32 b.val) | 7 => k0_off16 k (BitVec.ofNat 32 b.val)

theorem offS_inb (k : Fin k0_t1_loop.trips) (b : Fin 8) : ∀ n a, offS k b n a + S1x8x128.size a ≤ S8x768x128.size a
  | 0 => k0_off9_inb k b | 1 => k0_off10_inb k b | 2 => k0_off11_inb k b | 3 => k0_off12_inb k b
  | 4 => k0_off13_inb k b | 5 => k0_off14_inb k b | 6 => k0_off15_inb k b | 7 => k0_off16_inb k b

theorem offS_eq (k : Fin k0_t1_loop.trips) (b : Fin 8) : ∀ n, offS k b n = ![n.val, 64 * k.val + 8 * b.val, 0]
  | 0 => k0_off9_eq k b | 1 => k0_off10_eq k b | 2 => k0_off11_eq k b | 3 => k0_off12_eq k b
  | 4 => k0_off13_eq k b | 5 => k0_off14_eq k b | 6 => k0_off15_eq k b | 7 => k0_off16_eq k b

theorem offW_inb : ∀ (b : Fin 8) (h : Fin 2) (n : Fin 8) a,
    (![n.val, 16 * b.val + 8 * h.val, 0] : Fin 3 → Nat) a + S1x8x128.size a ≤ S8x128x128.size a := by decide

section
variable (𝒱 : Variants) (c : Dev nD) (bd : Option 𝒱.V) (i : grid0.Coords) (arg2 : Memref sig .tc .vmem S8x1x512x1536 .i8) (harg2 : arg2.IsWhole) (arg3 : Memref sig .tc .vmem S8x1x512x96 .f32) (harg3 : arg3.IsWhole) (arg4 : Memref sig .tc .vmem S1x512x1536 .i8) (harg4 : arg4.IsWhole) (arg5 : Memref sig .tc .vmem S1x512x96 .f32) (harg5 : arg5.IsWhole) (arg6 : Memref sig .tc .vmem S8x768x128 .f32) (harg6 : arg6.IsWhole) (arg7 : Memref sig .tc .vmem S8x768x128 .f32) (harg7 : arg7.IsWhole) (arg8 : Memref sig .tc .vmem S8x768x128 .f32) (harg8 : arg8.IsWhole) (arg9 : Memref sig .tc .vmem S8x128x128 .i32) (harg9 : arg9.IsWhole) (arg10 : Memref sig .tc .vmem S128x128 .i32) (harg10 : arg10.IsWhole) (arg11 : Memref sig .tc .vmem S768x128 .f32) (harg11 : arg11.IsWhole) (v972 : FVec F S96x128 .f32) (v973 : FVec F S96x128 .f32) (v992 : IVec S8x128 32) (X2 : BufTy.Contents (Elt F) arg2.view.ty) (X6 : BufTy.Contents (Elt F) arg6.view.ty) (X7 : BufTy.Contents (Elt F) arg7.view.ty) (X8 : BufTy.Contents (Elt F) arg8.view.ty) (k : Fin k0_t1_loop.trips)
  (f4 : BufTy.Contents (Elt F) arg4.view.ty) (f9 : BufTy.Contents (Elt F) arg9.view.ty) (f10 : BufTy.Contents (Elt F) arg10.view.ty) (f11 : BufTy.Contents (Elt F) arg11.view.ty)

/-- The pieces of the scales block `b` of trip `k` reads. -/
def PS (b : Fin 8) : Fin 3 → Fin 8 → Vec F S1x8x128 .f32
  | 0, n => View.readAt (Elt F) arg6.view (Rect.unit (s := S8x768x128) (offS k b n) S1x8x128.size (offS_inb k b n)).toLoadRect X6
  | 1, n => View.readAt (Elt F) arg7.view (Rect.unit (s := S8x768x128) (offS k b n) S1x8x128.size (offS_inb k b n)).toLoadRect X7
  | 2, n => View.readAt (Elt F) arg8.view (Rect.unit (s := S8x768x128) (offS k b n) S1x8x128.size (offS_inb k b n)).toLoadRect X8

/-- The code words block `b` of a trip reads out of the slabs `L`. -/
def WS (L : List (View.Piece (Elt F) S8x128x128 .i32)) (b : Fin 8) (h : Fin 2) (n : Fin 8) : Vec F S1x8x128 .i32 :=
  arg9.view.readCov L (Rect.unit (s := S8x128x128) ![n.val, 16 * b.val + 8 * h.val, 0] S1x8x128.size (offW_inb b h n)).toLoadRect

/-- The bytes as words: tensor `n`, byte column `p`, the group of four tokens `r`. -/
def wordAt (x : S8x1x512x1536.Idx → BitVec 8) (n : Fin 8) (p : Fin 1536) (r : Fin 128) : BitVec 32 :=
  word4 fun j => x (ix4 n 0 (tok r j) p)

/-- Row `a` of trip `k`. -/
def colK (k : Fin k0_t1_loop.trips) (a : Fin 128) : Fin 1536 :=
  ⟨128 * k.val + a.val, by have := Nat.lt_of_lt_of_le k.isLt k0_t1_abs.2.1; omega⟩

/-- The words of trip `k`'s columns, as the slabs hold them. -/
def slabG (x : S8x1x512x1536.Idx → BitVec 8) (k : Fin k0_t1_loop.trips) : S8x128x128.Idx → Elt F .i32 :=
  fun y => wordAt x (y 0) (colK k (y 1)) (y 2)

/-- A slab of a trip, read. -/
theorem slab_piece (n : Fin 8) (off : Fin 4 → Nat) (inb : ∀ a, off a + S1x1x512x128.size a ≤ S8x1x512x1536.size a)
    (ho : off = ![n.val, 0, 0, 128 * k.val]) (inb' : ∀ a, (![n.val, 0, 0] : Fin 3 → Nat) a + S1x128x128.size a ≤ S8x128x128.size a)
    (x : S1x128x128.Idx) :
    slabV (F := F) (View.readAt (Elt F) arg2.view (Rect.unit (s := S8x1x512x1536) off S1x1x512x128.size inb).toLoadRect X2) x
      = slabG (F := F) (arg2.view.read (Elt F) X2) k
          ((Rect.unit (s := S8x128x128) ![n.val, 0, 0] S1x128x128.size inb').emb x) := by
  subst ho
  obtain ⟨z, a, r, rfl⟩ : ∃ z a r, x = ix3 z a r := ⟨_, _, _, eq_ix3 x⟩
  obtain rfl : z = 0 := Subsingleton.elim _ _
  rw [slabV_apply]
  unfold slabG wordAt
  congr 1
  funext j
  show arg2.view.read (Elt F) X2 _ = arg2.view.read (Elt F) X2 _
  congr 1
  funext b
  apply Fin.ext
  fin_cases b <;> simp [colK, tok, LoadRect.idx_apply, ValueKit.rect_emb_unit_val]

/-- The slabs of a trip hold the words of its columns. -/
theorem trip9 : ∀ p ∈ trip_k0_t1.sl.HW_arg9_8 (F := F) arg2 X2 k, ∀ x,
    p.2 x = slabG (F := F) (arg2.view.read (Elt F) X2) k (p.1.emb x) := by
  unfold trip_k0_t1.sl.HW_arg9_8
  simp only [List.forall_mem_cons]
  refine ⟨?_, ?_, ?_, ?_, ?_, ?_, ?_, ?_, fun p hp => absurd hp List.not_mem_nil⟩
  · exact slab_piece arg2 X2 k 7 _ _ (k0_off8_eq k) _
  · exact slab_piece arg2 X2 k 6 _ _ (k0_off7_eq k) _
  · exact slab_piece arg2 X2 k 5 _ _ (k0_off6_eq k) _
  · exact slab_piece arg2 X2 k 4 _ _ (k0_off5_eq k) _
  · exact slab_piece arg2 X2 k 3 _ _ (k0_off4_eq k) _
  · exact slab_piece arg2 X2 k 2 _ _ (k0_off3_eq k) _
  · exact slab_piece arg2 X2 k 1 _ _ (k0_off2_eq k) _
  · exact slab_piece arg2 X2 k 0 _ _ (k0_off1_eq k) _

theorem mem_slab (o : Nat) (inb : ∀ a, (![o, 0, 0] : Fin 3 → Nat) a + (![1, 128, 128] : Fin 3 → Nat) a ≤ S8x128x128.size a) (y : S8x128x128.Idx) :
    y ∈ (Rect.unit (s := S8x128x128) ![o, 0, 0] ![1, 128, 128] inb).set ↔ (y 0).val = o := by
  have h1 : (y 1).val < 128 := (y 1).isLt
  have h2 : (y 2).val < 128 := (y 2).isLt
  rw [Rect.mem_set_unit]
  constructor
  · intro h
    have e : o ≤ (y 0).val ∧ (y 0).val < o + 1 := h 0
    omega
  · intro h a
    match a with
    | ⟨0, _⟩ => exact ⟨by show o ≤ (y 0).val; omega, by show (y 0).val < o + 1; omega⟩
    | ⟨1, _⟩ => exact ⟨Nat.zero_le _, by show (y 1).val < 0 + 128; omega⟩
    | ⟨2, _⟩ => exact ⟨Nat.zero_le _, by show (y 2).val < 0 + 128; omega⟩

theorem cover9 (y : S8x128x128.Idx) : ∃ p ∈ trip_k0_t1.sl.HW_arg9_8 (F := F) arg2 X2 k, y ∈ p.1.set := by
  unfold trip_k0_t1.sl.HW_arg9_8
  have h0 : (y 0).val < 8 := (y 0).isLt
  simp only [List.mem_cons, exists_eq_or_imp, exists_eq_left, List.not_mem_nil, false_and, exists_false, or_false, mem_slab]
  omega

/-- Block `b` of trip `k` among all the blocks. -/
def blkK (k : Fin k0_t1_loop.trips) (b : Fin 8) : Fin 96 :=
  ⟨8 * k.val + b.val, by have := Nat.lt_of_lt_of_le k.isLt k0_t1_abs.2.1; omega⟩

/-- The pieces of the scales of block `B`. -/
def Pspec (s : Fin 3 → S8x768x128.Idx → F .f32) (B : Fin 96) (p : Fin 3) (n : Fin 8) : Vec F S1x8x128 .f32 :=
  fun x => s p (ix3 n ⟨8 * B.val + (x 1).val, by have : (x 1).val < 8 := (x 1).isLt; omega⟩ (x 2))

/-- The code words of block `B`. -/
def Wspec (x : S8x1x512x1536.Idx → BitVec 8) (B : Fin 96) (h : Fin 2) (n : Fin 8) : Vec F S1x8x128 .i32 :=
  fun y => wordAt x n ⟨16 * B.val + 8 * h.val + (y 1).val, by have : (y 1).val < 8 := (y 1).isLt; omega⟩ (y 2)

/-- The scratch's three pieces of the scales, read. -/
def rdS : Fin 3 → S8x768x128.Idx → F .f32
  | 0 => arg6.view.read (Elt F) X6
  | 1 => arg7.view.read (Elt F) X7
  | 2 => arg8.view.read (Elt F) X8

theorem PS_eq (b : Fin 8) : PS arg6 arg7 arg8 X6 X7 X8 k b = Pspec (rdS arg6 arg7 arg8 X6 X7 X8) (blkK k b) := by
  funext p n x
  have key : ∀ (off : Fin 3 → Nat) (inb : ∀ a, off a + S1x8x128.size a ≤ S8x768x128.size a)
      (_ : off = ![n.val, 64 * k.val + 8 * b.val, 0]), (Rect.unit (s := S8x768x128) off S1x8x128.size inb).toLoadRect.idx x
        = ix3 n ⟨8 * (blkK k b).val + (x 1).val, by have : (x 1).val < 8 := (x 1).isLt; have := (blkK k b).isLt; omega⟩ (x 2) := by
    intro off inb ho
    subst ho
    have h0 : (x 0).val = 0 := by have : (x 0).val < 1 := (x 0).isLt; omega
    funext a
    apply Fin.ext
    fin_cases a <;> simp [blkK, LoadRect.idx_apply, h0] <;> omega
  match p with
  | 0 => exact congrArg (arg6.view.read (Elt F) X6) (key _ (offS_inb k b n) (offS_eq k b n))
  | 1 => exact congrArg (arg7.view.read (Elt F) X7) (key _ (offS_inb k b n) (offS_eq k b n))
  | 2 => exact congrArg (arg8.view.read (Elt F) X8) (key _ (offS_inb k b n) (offS_eq k b n))

theorem WS_eq (b : Fin 8) : WS arg9 (trip_k0_t1.sl.HW_arg9_8 (F := F) arg2 X2 k) b
    = Wspec (F := F) (arg2.view.read (Elt F) X2) (blkK k b) := by
  funext h n x
  unfold WS
  rw [View.readCov_eq_canon']
  refine (View.canon_apply_of_pieces _ _ (trip9 arg2 X2 k) _ (cover9 arg2 X2 k _)).trans ?_
  have h0 : (x 0).val = 0 := by have : (x 0).val < 1 := (x 0).isLt; omega
  unfold Wspec
  show wordAt _ _ _ _ = wordAt _ _ _ _
  congr 1
  · apply Fin.ext
    simp [LoadRect.idx_apply, h0]
  · apply Fin.ext
    simp [LoadRect.idx_apply, colK, blkK]; omega
  · apply Fin.ext
    simp [LoadRect.idx_apply]

theorem offO_inb : ∀ (b : Fin 8) (h : Fin 2) a,
    (![16 * b.val + 8 * h.val, 0] : Fin 2 → Nat) a + S8x128.size a ≤ S128x128.size a := by decide

/-- Eight rows of 128 lanes among more rows. -/
theorem mem_rows {D : Nat} (o : Nat) (off : Fin 2 → Nat) (ho : off = ![o, 0])
    (inb : ∀ a, off a + (![8, 128] : Fin 2 → Nat) a ≤ (⟨2, ![D, 128]⟩ : Shape).size a) (y : (⟨2, ![D, 128]⟩ : Shape).Idx) :
    y ∈ (Rect.unit (s := ⟨2, ![D, 128]⟩) off ![8, 128] inb).set ↔ o ≤ (y 0).val ∧ (y 0).val < o + 8 := by
  subst ho
  have h1 : (y 1).val < 128 := (y 1).isLt
  rw [Rect.mem_set_unit]
  constructor
  · intro h
    exact h 0
  · intro h a
    match a with
    | ⟨0, _⟩ => exact h
    | ⟨1, _⟩ => exact ⟨Nat.zero_le _, by show (y 1).val < 0 + 128; omega⟩

/-- The packed words of the column of trip `k`, block by block. -/
def packG (sub : IVec S8x128 32) (s : Fin 3 → S8x768x128.Idx → F .f32) (x : S8x1x512x1536.Idx → BitVec 8) (p : Fin 1536)
    (r : Fin 128) : BitVec 32 :=
  blkWords sub (Pspec s ⟨p.val / 16, by omega⟩) (Wspec (F := F) x ⟨p.val / 16, by omega⟩) ⟨p.val / 8 % 2, by omega⟩
    (ix2 ⟨p.val % 8, by omega⟩ r)

/-- The packed words of trip `k`. -/
def wordsG (sub : IVec S8x128 32) (s : Fin 3 → S8x768x128.Idx → F .f32) (x : S8x1x512x1536.Idx → BitVec 8)
    (k : Fin k0_t1_loop.trips) : S128x128.Idx → Elt F .i32 :=
  fun y => packG sub s x (colK k (y 0)) (y 1)

theorem trip10 : ∀ p ∈ trip_k0_t1.sl.HW_arg10_16 (F := F) arg2 arg6 arg7 arg8 arg9 v992 X2 X6 X7 X8 k, ∀ x,
    p.2 x = wordsG v992 (rdS arg6 arg7 arg8 X6 X7 X8) (arg2.view.read (Elt F) X2) k
      (p.1.emb x) := by
  have key : ∀ (b : Fin 8) (h : Fin 2) (x : S8x128.Idx),
      blkWords v992 (PS arg6 arg7 arg8 X6 X7 X8 k b) (WS arg9 (trip_k0_t1.sl.HW_arg9_8 (F := F) arg2 X2 k) b) h x
      = wordsG v992 (rdS arg6 arg7 arg8 X6 X7 X8) (arg2.view.read (Elt F) X2) k
        ((Rect.unit (s := S128x128) ![16 * b.val + 8 * h.val, 0] S8x128.size (offO_inb b h)).emb x) := by
    intro b h x
    rw [PS_eq, WS_eq]
    unfold wordsG packG
    have hx : (x 0).val < 8 := (x 0).isLt
    have hv : (colK k ((Rect.unit (s := S128x128) ![16 * b.val + 8 * h.val, 0] S8x128.size (offO_inb b h)).emb x 0)).val
        = 128 * k.val + (16 * b.val + 8 * h.val + (x 0).val) := by
      simp [colK, ValueKit.rect_emb_unit_val]
    have hl : (Rect.unit (s := S128x128) ![16 * b.val + 8 * h.val, 0] S8x128.size (offO_inb b h)).emb x 1 = x 1 := by
      apply Fin.ext; simp [ValueKit.rect_emb_unit_val]
    dsimp only
    simp only [hv, hl]
    have e1 : (⟨(128 * k.val + (16 * b.val + 8 * h.val + (x 0).val)) / 16, by
      have := Nat.lt_of_lt_of_le k.isLt k0_t1_abs.2.1; omega⟩ : Fin 96) = blkK k b := by
      apply Fin.ext; simp [blkK]; omega
    have e2 : (⟨(128 * k.val + (16 * b.val + 8 * h.val + (x 0).val)) / 8 % 2, by omega⟩ : Fin 2) = h := by
      apply Fin.ext; simp; omega
    have e3 : (ix2 ⟨(128 * k.val + (16 * b.val + 8 * h.val + (x 0).val)) % 8, by omega⟩ (x 1) : S8x128.Idx) = x := by
      funext a
      match a with
      | ⟨0, _⟩ => apply Fin.ext; simp; omega
      | ⟨1, _⟩ => rfl
    rw [e1, e2, e3]
  unfold trip_k0_t1.sl.HW_arg10_16
  simp only [List.forall_mem_cons]
  refine ⟨?_, ?_, ?_, ?_, ?_, ?_, ?_, ?_, ?_, ?_, ?_, ?_, ?_, ?_, ?_, ?_, fun p hp => absurd hp List.not_mem_nil⟩
  · exact key 7 1
  · exact key 7 0
  · exact key 6 1
  · exact key 6 0
  · exact key 5 1
  · exact key 5 0
  · exact key 4 1
  · exact key 4 0
  · exact key 3 1
  · exact key 3 0
  · exact key 2 1
  · exact key 2 0
  · exact key 1 1
  · exact key 1 0
  · exact key 0 1
  · exact key 0 0

theorem cover10 (y : S128x128.Idx) :
    ∃ p ∈ trip_k0_t1.sl.HW_arg10_16 (F := F) arg2 arg6 arg7 arg8 arg9 v992 X2 X6 X7 X8 k, y ∈ p.1.set := by
  unfold trip_k0_t1.sl.HW_arg10_16
  have h0 : (y 0).val < 128 := (y 0).isLt
  simp only [List.mem_cons, exists_eq_or_imp, exists_eq_left, List.not_mem_nil, false_and, exists_false, or_false]
  simp only [mem_rows (D := 128) _ _ rfl]
  omega

/-- The scales of all the blocks, as the scratch holds them. -/
def scaleG (sub : IVec S8x128 32) (s : Fin 3 → S8x768x128.Idx → F .f32) (x : S8x1x512x1536.Idx → BitVec 8) : S768x128.Idx → F .f32 :=
  fun y => blkScale sub (Pspec s ⟨(y 0).val / 8, by have : (y 0).val < 768 := (y 0).isLt; omega⟩)
    (Wspec (F := F) x ⟨(y 0).val / 8, by have : (y 0).val < 768 := (y 0).isLt; omega⟩) (ix2 ⟨(y 0).val % 8, by omega⟩ (y 1))

theorem trip11 :
    ∀ p ∈ (trip_k0_t1 (F := F) 𝒱 c bd i arg2 harg2 arg3 harg3 arg4 harg4 arg5 harg5 arg6 harg6 arg7 harg7 arg8 harg8 arg9 harg9 arg10 harg10 arg11 harg11 v972 v973 v992 X2 X6 X7 X8 k).2.2.2.1 f4 f9 f10 f11,
      ∀ x, p.2 x = scaleG v992 (rdS arg6 arg7 arg8 X6 X7 X8) (arg2.view.read (Elt F) X2) (p.1.emb x) := by
  have hG : ∀ b : Fin 8, ∀ x,
      shapeCast S8x128 (blkScale v992 (PS arg6 arg7 arg8 X6 X7 X8 k b) (WS arg9 (trip_k0_t1.sl.HW_arg9_8 arg2 X2 k) b)) shapeCasts_S8x128_S8x128 x
      = scaleG v992 (rdS arg6 arg7 arg8 X6 X7 X8) (arg2.view.read (Elt F) X2)
        ((Rect.unit (s := S768x128) (k0_off17 k (BitVec.ofNat 32 b.val)) S8x128.size (k0_off17_inb k b)).emb x) := by
    intro b x
    rw [shapeCast_self, PS_eq, WS_eq]
    unfold scaleG
    have hx : (x 0).val < 8 := (x 0).isLt
    have ho := k0_off17_eq k b
    have hv : ((Rect.unit (s := S768x128) (k0_off17 k (BitVec.ofNat 32 b.val)) S8x128.size (k0_off17_inb k b)).emb x 0).val
        = 64 * k.val + 8 * b.val + (x 0).val := by
      exact (ValueKit.rect_emb_unit_val _ _ _ _ _).trans (congrArg (· + (x 0).val) (congrFun ho 0))
    have hl : (Rect.unit (s := S768x128) (k0_off17 k (BitVec.ofNat 32 b.val)) S8x128.size (k0_off17_inb k b)).emb x 1 = x 1 := by
      apply Fin.ext; exact (ValueKit.rect_emb_unit_val _ _ _ _ _).trans ((congrArg (· + (x 1).val) (congrFun ho 1)).trans (Nat.zero_add _))
    simp only [hv, hl]
    have e1 : (⟨(64 * k.val + 8 * b.val + (x 0).val) / 8, by
      have := Nat.lt_of_lt_of_le k.isLt k0_t1_abs.2.1; omega⟩ : Fin 96) = blkK k b := by
      apply Fin.ext; simp [blkK]; omega
    have e3 : (ix2 ⟨(64 * k.val + 8 * b.val + (x 0).val) % 8, by omega⟩ (x 1) : S8x128.Idx) = x := by
      funext a
      match a with
      | ⟨0, _⟩ => apply Fin.ext; simp; omega
      | ⟨1, _⟩ => rfl
    rw [e1, e3]
  unfold trip_k0_t1
  dsimp only
  simp only [List.forall_mem_cons]
  refine ⟨?_, ?_, ?_, ?_, ?_, ?_, ?_, ?_, ?_⟩
  · exact hG 7
  · exact hG 6
  · exact hG 5
  · exact hG 4
  · exact hG 3
  · exact hG 2
  · exact hG 1
  · exact hG 0
  · simp

theorem cover11 (y : S768x128.Idx) (hy : 64 * k.val ≤ (y 0).val ∧ (y 0).val < 64 * k.val + 64) :
    ∃ p ∈ (trip_k0_t1 (F := F) 𝒱 c bd i arg2 harg2 arg3 harg3 arg4 harg4 arg5 harg5 arg6 harg6 arg7 harg7 arg8 harg8 arg9 harg9 arg10 harg10 arg11 harg11 v972 v973 v992 X2 X6 X7 X8 k).2.2.2.1 f4 f9 f10 f11,
      y ∈ p.1.set := by
  unfold trip_k0_t1
  dsimp only
  simp only [List.mem_cons, exists_eq_or_imp, exists_eq_left, List.not_mem_nil, false_and, exists_false, or_false]
  simp only [mem_rows (D := 768) (64 * k.val + 0) (k0_off17 k 0#32) (k0_off17_eq k 0),
    mem_rows (D := 768) (64 * k.val + 8) (k0_off17 k 1#32) (k0_off17_eq k 1),
    mem_rows (D := 768) (64 * k.val + 16) (k0_off17 k 2#32) (k0_off17_eq k 2),
    mem_rows (D := 768) (64 * k.val + 24) (k0_off17 k 3#32) (k0_off17_eq k 3),
    mem_rows (D := 768) (64 * k.val + 32) (k0_off17 k 4#32) (k0_off17_eq k 4),
    mem_rows (D := 768) (64 * k.val + 40) (k0_off17 k 5#32) (k0_off17_eq k 5),
    mem_rows (D := 768) (64 * k.val + 48) (k0_off17 k 6#32) (k0_off17_eq k 6),
    mem_rows (D := 768) (64 * k.val + 56) (k0_off17 k 7#32) (k0_off17_eq k 7)]
  omega

/-- The packed bytes, as the output holds them. -/
def byteG (sub : IVec S8x128 32) (s : Fin 3 → S8x768x128.Idx → F .f32) (x : S8x1x512x1536.Idx → BitVec 8) :
    S1x512x1536.Idx → Elt F .i8 :=
  fun y => (packG sub s x (y 2) ⟨(y 1).val / 4, by have : (y 1).val < 512 := (y 1).isLt; omega⟩).extractLsb' (8 * ((y 1).val % 4)) 8

theorem trip4 :
    ∀ p ∈ (trip_k0_t1 (F := F) 𝒱 c bd i arg2 harg2 arg3 harg3 arg4 harg4 arg5 harg5 arg6 harg6 arg7 harg7 arg8 harg8 arg9 harg9 arg10 harg10 arg11 harg11 v972 v973 v992 X2 X6 X7 X8 k).1 f4 f9 f10 f11,
      ∀ x, p.2 x = byteG v992 (rdS arg6 arg7 arg8 X6 X7 X8) (arg2.view.read (Elt F) X2) (p.1.emb x) := by
  have hw : trip_k0_t1.sl.v12674 (F := F) arg2 arg6 arg7 arg8 arg9 arg10 v992 X2 X6 X7 X8 k
      = wordsG v992 (rdS arg6 arg7 arg8 X6 X7 X8) (arg2.view.read (Elt F) X2) k := by
    unfold trip_k0_t1.sl.v12674
    rw [View.readCov_eq_canon']
    funext y
    have hy : (Rect.unit (s := S128x128) ![0, 0] S128x128.size inb_S128x128_S128x128_0_0).toLoadRect.idx y = y := by
      funext a
      apply Fin.ext
      fin_cases a <;> simp [LoadRect.idx_apply]
    rw [hy]
    exact View.canon_apply_of_pieces _ _ (trip10 arg2 arg6 arg7 arg8 arg9 v992 X2 X6 X7 X8 k) _
      (cover10 arg2 arg6 arg7 arg8 arg9 v992 X2 X6 X7 X8 k y)
  unfold trip_k0_t1
  dsimp only
  simp only [List.forall_mem_cons]
  refine ⟨fun x => ?_, fun p hp => absurd hp List.not_mem_nil⟩
  unfold trip_k0_t1.sl.r_771
  rw [hw]
  have ho := k0_off18_eq k
  obtain ⟨z, t, a, rfl⟩ : ∃ z t a, x = ix3 z t a := ⟨_, _, _, eq_ix3 x⟩
  obtain rfl : z = 0 := Subsingleton.elim _ _
  have ht : t.val < 512 := t.isLt
  obtain ⟨r, j, rfl⟩ : ∃ r j, t = tok r j := ⟨⟨t.val / 4, by omega⟩, ⟨t.val % 4, by omega⟩, by apply Fin.ext; simp [tok]; omega⟩
  refine (outV_apply (wordsG v992 (rdS arg6 arg7 arg8 X6 X7 X8) (arg2.view.read (Elt F) X2) k) r j a).trans ?_
  unfold byteG wordsG
  have hj := j.isLt
  have e1 : ((Rect.unit (s := S1x512x1536) (k0_off18 k) ![1, 512, 128] (k0_off18_inb k)).emb (ix3 0 (tok r j) a) 1).val = 4 * r.val + j.val := by
    exact (ValueKit.rect_emb_unit_val _ _ _ _ _).trans ((congrArg (· + (4 * r.val + j.val)) (congrFun ho 1)).trans (Nat.zero_add _))
  have e2 : (Rect.unit (s := S1x512x1536) (k0_off18 k) ![1, 512, 128] (k0_off18_inb k)).emb (ix3 0 (tok r j) a) 2 = colK k a := by
    apply Fin.ext; exact (ValueKit.rect_emb_unit_val _ _ _ _ _).trans (congrArg (· + a.val) (congrFun ho 2))
  have e3 : (⟨(4 * r.val + j.val) / 4, by omega⟩ : Fin 128) = r := by apply Fin.ext; simp; omega
  have e4 : (4 * r.val + j.val) % 4 = j.val := by omega
  dsimp only
  simp only [e1, e2, e3, e4]

theorem cover4 (y : S1x512x1536.Idx) (hy : 128 * k.val ≤ (y 2).val ∧ (y 2).val < 128 * k.val + 128) :
    ∃ p ∈ (trip_k0_t1 (F := F) 𝒱 c bd i arg2 harg2 arg3 harg3 arg4 harg4 arg5 harg5 arg6 harg6 arg7 harg7 arg8 harg8 arg9 harg9 arg10 harg10 arg11 harg11 v972 v973 v992 X2 X6 X7 X8 k).1 f4 f9 f10 f11,
      y ∈ p.1.set := by
  unfold trip_k0_t1
  dsimp only
  refine ⟨_, List.mem_cons_self, ?_⟩
  rw [Rect.mem_set_unit]
  have h0 : (y 0).val < 1 := (y 0).isLt
  have h1 : (y 1).val < 512 := (y 1).isLt
  rw [k0_off18_eq k]
  intro a
  match a with
  | ⟨0, _⟩ => exact ⟨Nat.zero_le _, by show (y 0).val < 0 + 1; omega⟩
  | ⟨1, _⟩ => exact ⟨Nat.zero_le _, by show (y 1).val < 0 + 512; omega⟩
  | ⟨2, _⟩ => exact hy

end
end Cert.KernelIdeal.Hand
-- ==== Proof.Loop.lean ====
/-
The loop over the trips, whole: what it leaves in the packed output's staging and in the scratch of the scales.
-/
module

public import proofs.«01_k».proof.Proof.Trip
public import Idealize.ShloMosaic.Lib.Pipeline.FrameBody

@[expose] public section

set_option maxRecDepth 8192
set_option maxHeartbeats 1000000

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open Idealize.ShloMosaic.Rounds

variable {F : FTy → Type} [FloatOps F] [∀ e, Nonempty (Elt F e)]

/-- A buffer read after stores that agree with one function, wherever one of them lies. -/
theorem read_writes_of_pieces {sp : Space} {s : Shape} {e : EltTy} (v : View sig .tc sp s e) (f : v.ty.Contents (Elt F))
    (G : s.Idx → Elt F e) (L : List (View.Piece (Elt F) s e)) (agree : ∀ p ∈ L, ∀ x, p.2 x = G (p.1.emb x)) (y : s.Idx)
    (cover : ∃ p ∈ L, y ∈ p.1.set) : v.read (Elt F) (v.writes (Elt F) f L) y = G y :=
  (View.read_writes_apply_eq_canon v f y L cover).trans (View.canon_apply_of_pieces G L agree y cover)

/-- Stores that agree with one function and cover where the row count `d` is under `n`. -/
def Filled {s : Shape} {e : EltTy} (G : s.Idx → Elt F e) (d : s.Idx → Nat) (n : Nat) (L : List (View.Piece (Elt F) s e)) : Prop :=
  (∀ p ∈ L, ∀ x, p.2 x = G (p.1.emb x)) ∧ ∀ y, d y < n → ∃ p ∈ L, y ∈ p.1.set

theorem Filled.nil {s : Shape} {e : EltTy} (G : s.Idx → Elt F e) (d : s.Idx → Nat) : Filled G d 0 [] :=
  ⟨fun _ hp => absurd hp List.not_mem_nil, fun _ hy => absurd hy (Nat.not_lt_zero _)⟩

theorem Filled.append {s : Shape} {e : EltTy} {G : s.Idx → Elt F e} {d : s.Idx → Nat} {m n : Nat}
    {L : List (View.Piece (Elt F) s e)} (hL : Filled G d (m * n) L) (T L' : List (View.Piece (Elt F) s e)) (h : L' = T ++ L)
    (agree : ∀ p ∈ T, ∀ x, p.2 x = G (p.1.emb x)) (cover : ∀ y, m * n ≤ d y ∧ d y < m * n + m → ∃ p ∈ T, y ∈ p.1.set) :
    Filled G d (m * (n + 1)) L' := by
  subst h
  refine ⟨fun p hp => ?_, fun y hy => ?_⟩
  · rcases List.mem_append.1 hp with h | h
    · exact agree p h
    · exact hL.1 p h
  · by_cases h : d y < m * n
    · obtain ⟨p, hp, hy⟩ := hL.2 y h
      exact ⟨p, List.mem_append_right _ hp, hy⟩
    · obtain ⟨p, hp, hy⟩ := cover y ⟨Nat.le_of_not_lt h, hy⟩
      exact ⟨p, List.mem_append_left _ hp, hy⟩

section
variable (𝒱 : Variants) (c : Dev nD) (bd : Option 𝒱.V) (i : grid0.Coords) (arg2 : Memref sig .tc .vmem S8x1x512x1536 .i8) (harg2 : arg2.IsWhole) (arg3 : Memref sig .tc .vmem S8x1x512x96 .f32) (harg3 : arg3.IsWhole) (arg4 : Memref sig .tc .vmem S1x512x1536 .i8) (harg4 : arg4.IsWhole) (arg5 : Memref sig .tc .vmem S1x512x96 .f32) (harg5 : arg5.IsWhole) (arg6 : Memref sig .tc .vmem S8x768x128 .f32) (harg6 : arg6.IsWhole) (arg7 : Memref sig .tc .vmem S8x768x128 .f32) (harg7 : arg7.IsWhole) (arg8 : Memref sig .tc .vmem S8x768x128 .f32) (harg8 : arg8.IsWhole) (arg9 : Memref sig .tc .vmem S8x128x128 .i32) (harg9 : arg9.IsWhole) (arg10 : Memref sig .tc .vmem S128x128 .i32) (harg10 : arg10.IsWhole) (arg11 : Memref sig .tc .vmem S768x128 .f32) (harg11 : arg11.IsWhole) (v972 : FVec F S96x128 .f32) (v973 : FVec F S96x128 .f32) (v992 : IVec S8x128 32) (X2 : BufTy.Contents (Elt F) arg2.view.ty) (X6 : BufTy.Contents (Elt F) arg6.view.ty) (X7 : BufTy.Contents (Elt F) arg7.view.ty) (X8 : BufTy.Contents (Elt F) arg8.view.ty)
  (f4 : BufTy.Contents (Elt F) arg4.view.ty) (f9 : BufTy.Contents (Elt F) arg9.view.ty) (f10 : BufTy.Contents (Elt F) arg10.view.ty) (f11 : BufTy.Contents (Elt F) arg11.view.ty)

/-- The stores of the first `k` trips into the packed output agree with the packed codes and cover the columns so far. -/
theorem loop_pieces4 (k : Nat) (hk : k ≤ k0_t1_loop.trips) :
    Filled (byteG v992 (rdS arg6 arg7 arg8 X6 X7 X8) (arg2.view.read (Elt F) X2)) (fun y => (y 2).val) (128 * k) (pb_k0_t1 𝒱 c bd i arg2 harg2 arg3 harg3 arg4 harg4 arg5 harg5 arg6 harg6 arg7 harg7 arg8 harg8 arg9 harg9 arg10 harg10 arg11 harg11 v972 v973 v992 X2 X6 X7 X8 f4 f9 f10 f11 k).1 := by
  induction k with
  | zero => rw [pb_k0_t1.eq_1]; exact .nil _ _
  | succ k ih =>
    have hk' : k < k0_t1_loop.trips := hk
    exact (ih (Nat.le_of_lt hk')).append _ _ (congrArg Prod.fst (pb_k0_t1_succ 𝒱 c bd i arg2 harg2 arg3 harg3 arg4 harg4 arg5 harg5 arg6 harg6 arg7 harg7 arg8 harg8 arg9 harg9 arg10 harg10 arg11 harg11 v972 v973 v992 X2 X6 X7 X8 f4 f9 f10 f11 ⟨k, hk'⟩))
      (trip4 𝒱 c bd i arg2 harg2 arg3 harg3 arg4 harg4 arg5 harg5 arg6 harg6 arg7 harg7 arg8 harg8 arg9 harg9 arg10 harg10 arg11 harg11 v972 v973 v992 X2 X6 X7 X8 ⟨k, hk'⟩ _ _ _ _) (fun y hy => cover4 𝒱 c bd i arg2 harg2 arg3 harg3 arg4 harg4 arg5 harg5 arg6 harg6 arg7 harg7 arg8 harg8 arg9 harg9 arg10 harg10 arg11 harg11 v972 v973 v992 X2 X6 X7 X8 ⟨k, hk'⟩ _ _ _ _ y hy)

/-- The stores of the first `k` trips into the scratch of the scales agree with the scales and cover the rows so far. -/
theorem loop_pieces11 (k : Nat) (hk : k ≤ k0_t1_loop.trips) :
    Filled (scaleG v992 (rdS arg6 arg7 arg8 X6 X7 X8) (arg2.view.read (Elt F) X2)) (fun y => (y 0).val) (64 * k) (pb_k0_t1 𝒱 c bd i arg2 harg2 arg3 harg3 arg4 harg4 arg5 harg5 arg6 harg6 arg7 harg7 arg8 harg8 arg9 harg9 arg10 harg10 arg11 harg11 v972 v973 v992 X2 X6 X7 X8 f4 f9 f10 f11 k).2.2.2 := by
  induction k with
  | zero => rw [pb_k0_t1.eq_1]; exact .nil _ _
  | succ k ih =>
    have hk' : k < k0_t1_loop.trips := hk
    exact (ih (Nat.le_of_lt hk')).append _ _ (congrArg (fun p => p.2.2.2) (pb_k0_t1_succ 𝒱 c bd i arg2 harg2 arg3 harg3 arg4 harg4 arg5 harg5 arg6 harg6 arg7 harg7 arg8 harg8 arg9 harg9 arg10 harg10 arg11 harg11 v972 v973 v992 X2 X6 X7 X8 f4 f9 f10 f11 ⟨k, hk'⟩))
      (trip11 𝒱 c bd i arg2 harg2 arg3 harg3 arg4 harg4 arg5 harg5 arg6 harg6 arg7 harg7 arg8 harg8 arg9 harg9 arg10 harg10 arg11 harg11 v972 v973 v992 X2 X6 X7 X8 ⟨k, hk'⟩ _ _ _ _) (fun y hy => cover11 𝒱 c bd i arg2 harg2 arg3 harg3 arg4 harg4 arg5 harg5 arg6 harg6 arg7 harg7 arg8 harg8 arg9 harg9 arg10 harg10 arg11 harg11 v972 v973 v992 X2 X6 X7 X8 ⟨k, hk'⟩ _ _ _ _ y hy)

/-- The loop's trips are twelve. -/
theorem trips_eq : k0_t1_loop.trips = 12 := by decide

/-- The packed output's staging after the loop. -/
theorem loop_read4 : arg4.view.read (Elt F) (arg4.view.writes (Elt F) f4 (pb_k0_t1 𝒱 c bd i arg2 harg2 arg3 harg3 arg4 harg4 arg5 harg5 arg6 harg6 arg7 harg7 arg8 harg8 arg9 harg9 arg10 harg10 arg11 harg11 v972 v973 v992 X2 X6 X7 X8 f4 f9 f10 f11 k0_t1_loop.trips).1)
    = byteG v992 (rdS arg6 arg7 arg8 X6 X7 X8) (arg2.view.read (Elt F) X2) := by
  funext y
  have h := loop_pieces4 𝒱 c bd i arg2 harg2 arg3 harg3 arg4 harg4 arg5 harg5 arg6 harg6 arg7 harg7 arg8 harg8 arg9 harg9 arg10 harg10 arg11 harg11 v972 v973 v992 X2 X6 X7 X8 f4 f9 f10 f11 k0_t1_loop.trips le_rfl
  exact read_writes_of_pieces arg4.view f4 _ _ h.1 y (h.2 y (by rw [trips_eq]; exact (y 2).isLt))

/-- The scratch of the scales after the loop. -/
theorem loop_read11 : arg11.view.read (Elt F) (arg11.view.writes (Elt F) f11 (pb_k0_t1 𝒱 c bd i arg2 harg2 arg3 harg3 arg4 harg4 arg5 harg5 arg6 harg6 arg7 harg7 arg8 harg8 arg9 harg9 arg10 harg10 arg11 harg11 v972 v973 v992 X2 X6 X7 X8 f4 f9 f10 f11 k0_t1_loop.trips).2.2.2)
    = scaleG v992 (rdS arg6 arg7 arg8 X6 X7 X8) (arg2.view.read (Elt F) X2) := by
  funext y
  have h := loop_pieces11 𝒱 c bd i arg2 harg2 arg3 harg3 arg4 harg4 arg5 harg5 arg6 harg6 arg7 harg7 arg8 harg8 arg9 harg9 arg10 harg10 arg11 harg11 v972 v973 v992 X2 X6 X7 X8 f4 f9 f10 f11 k0_t1_loop.trips le_rfl
  exact read_writes_of_pieces arg11.view f11 _ _ h.1 y (h.2 y (by rw [trips_eq]; exact (y 0).isLt))

end

end Cert.KernelIdeal.Hand
-- ==== Proof.Scratch.lean ====
/-
The scratch of the scales' pieces and the output scales: what the strided stores leave in them.

A scale is held in three pieces, each tensor's row of the scratch twice: row `8B + ρ` and lane `r` hold the scale of block `B` and token
`4r + ρ % 4`. The output scales come out of the scratch of the scales, row `8B + 2j` and lane `r` for token `4r + j`.
-/
module

public import proofs.«01_k».proof.Proof.Loop

@[expose] public section

set_option maxRecDepth 8192
set_option maxHeartbeats 400000

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.ShloMosaic.Rounds

variable {F : FTy → Type} [FloatOps F] [∀ e, Nonempty (Elt F e)]

/-- A tensor's scales with the blocks leading. -/
def turnV (v : Vec F S1x1x128x96 .f32) : FVec F S96x128 .f32 :=
  transpose S96x128 [1, 0] (shapeCast S128x96 v shapeCasts_S1x1x128x96_S128x96 : FVec F S128x96 .f32) transposes_S128x96_p1_0_S96x128

/-- The high part of each element, held wide. -/
def highV (t : FVec F S96x128 .f32) : FVec F S96x128 .f32 := extf .f32 (truncf .bf16 t)

/-- The three pieces: the high part, the high part of what it leaves, and the rest. -/
def pieceV (v : Vec F S1x1x128x96 .f32) : Fin 3 → FVec F S96x128 .f32
  | 0 => highV (turnV v)
  | 1 => highV (subf (turnV v) (highV (turnV v)))
  | 2 => subf (subf (turnV v) (highV (turnV v))) (highV (subf (turnV v) (highV (turnV v))))

/-- The pieces as a tensor's rows of the scratch. -/
def pieceRows (v : Vec F S1x1x128x96 .f32) (p : Fin 3) : FVec F S1x96x128 .f32 :=
  shapeCast S1x96x128 (pieceV v p) shapeCasts_S96x128_S1x96x128

theorem pieceRows_apply (v : Vec F S1x1x128x96 .f32) (p : Fin 3) (x : S1x96x128.Idx) :
    pieceRows v p x = pieceV v p (ix2 (x 1) (x 2)) := by
  refine shapeCast_apply _ _ x (ix2 (x 1) (x 2)) ?_
  have hx0 : x 0 = (0 : Fin 1) := Subsingleton.elim (α := Fin 1) _ _
  rw [Shape.rowMajor_val_two, Shape.rowMajor_val_three, hx0]
  show (x 1).val * 128 + (x 2).val = ((0 : Nat) * 96 + (x 1).val) * 128 + (x 2).val
  omega

/-- Rows `ρ, ρ + 8, …` of tensor `n` of the scratch. -/
abbrev stRect (n ρ : Nat) (hn : n < 8) (hρ : ρ < 8) : Rect S8x768x128 where
  off := ![n, ρ, 0]
  size := S1x96x128.size
  stride := ![1, 8, 1]
  inb a := by
    right
    match a with
    | ⟨0, _⟩ => show n + 1 * (1 - 1) < 8; omega
    | ⟨1, _⟩ => show ρ + 8 * (96 - 1) < 768; omega
    | ⟨2, _⟩ => show 0 + 1 * (128 - 1) < 128; omega
  stride_pos := by decide

/-- Every fourth token's scales of tensor `n`, from token `ρ % 4`. -/
abbrev ldRect (n ρ : Nat) (hn : n < 8) : LoadRect S8x1x512x96 where
  off := ![n, 0, ρ % 4, 0]
  size := S1x1x128x96.size
  stride := ![1, 1, 4, 1]
  inb a := by
    right
    match a with
    | ⟨0, _⟩ => show n + 1 * (1 - 1) < 8; omega
    | ⟨1, _⟩ => show 0 + 1 * (1 - 1) < 1; omega
    | ⟨2, _⟩ => show ρ % 4 + 4 * (128 - 1) < 512; omega
    | ⟨3, _⟩ => show 0 + 1 * (96 - 1) < 96; omega

/-- The scales of tensor `n` at token `4r + j`, as the kernel loads them. -/
def scalesAt (x3 : S8x1x512x96.Idx → F .f32) (n : Fin 8) (j : Fin 4) : Vec F S1x1x128x96 .f32 :=
  fun z => x3 (ix4 n 0 (tok (z 2) j) (z 3))

/-- The scratch, piece by piece. -/
def scrG (x3 : S8x1x512x96.Idx → F .f32) (p : Fin 3) : S8x768x128.Idx → F .f32 :=
  fun y => pieceV (scalesAt x3 (y 0) ⟨(y 1).val % 4, by omega⟩) p
    (ix2 ⟨(y 1).val / 8, by have : (y 1).val < 768 := (y 1).isLt; omega⟩ (y 2))

/-- A strided store of one piece of one tensor's scales. -/
def IsSt (arg3 : Memref sig .tc .vmem S8x1x512x96 .f32) (f3 : arg3.view.ty.Contents (Elt F)) (p : Fin 3)
    (q : View.Piece (Elt F) S8x768x128 .f32) : Prop :=
  ∃ n ρ hn hρ, q = ⟨stRect n ρ hn hρ, pieceRows (View.readAt (Elt F) arg3.view (ldRect n ρ hn) f3) p⟩

/-- The tensors and rows of the stores, the last first. -/
def stOrder : List (Nat × Nat) := [7, 6, 5, 4, 3, 2, 1, 0].flatMap fun n => [7, 3, 6, 2, 5, 1, 4, 0].map fun ρ => (n, ρ)

theorem stOrder_all : ∀ n ρ : Fin 8, (n.val, ρ.val) ∈ stOrder := by decide

/-- The scratch after the stores of the eight rows of each tensor. -/
theorem scr_read (arg3 : Memref sig .tc .vmem S8x1x512x96 .f32) (f3 : arg3.view.ty.Contents (Elt F)) (p : Fin 3)
    (v : View sig .tc .vmem S8x768x128 .f32) (f : v.ty.Contents (Elt F)) (L : List (View.Piece (Elt F) S8x768x128 .f32))
    (hL : ∀ q ∈ L, IsSt arg3 f3 p q) (hc : (L.map fun q => (q.1.off 0, q.1.off 1)) = stOrder) :
    v.read (Elt F) (v.writes (Elt F) f L) = scrG (arg3.view.read (Elt F) f3) p := by
  funext y
  refine read_writes_of_pieces v f _ L (fun q hq x => ?_) y ?_
  · obtain ⟨n, ρ, hn, hρ, rfl⟩ := hL q hq
    have h1 : (x 1).val < 96 := (x 1).isLt
    have hx0 : x 0 = (0 : Fin 1) := Subsingleton.elim (α := Fin 1) _ _
    have e0 : ((stRect n ρ hn hρ).emb x 0).val = n := by
      rw [Rect.emb_apply, hx0]; show n + 1 * 0 = n; omega
    have e1 : ((stRect n ρ hn hρ).emb x 1).val = ρ + 8 * (x 1).val := by
      rw [Rect.emb_apply]; rfl
    have e2 : ((stRect n ρ hn hρ).emb x 2).val = (x 2).val := by
      rw [Rect.emb_apply]; show 0 + 1 * (x 2).val = _; omega
    have hv : View.readAt (Elt F) arg3.view (ldRect n ρ hn) f3
        = scalesAt (arg3.view.read (Elt F) f3) ((stRect n ρ hn hρ).emb x 0) ⟨((stRect n ρ hn hρ).emb x 1).val % 4, by omega⟩ := by
      funext z
      rw [View.readAt_apply]
      unfold scalesAt
      refine congrArg _ (funext fun a => Fin.ext ?_)
      have hz0 : z 0 = (0 : Fin 1) := Subsingleton.elim (α := Fin 1) _ _
      have hz1 : z 1 = (0 : Fin 1) := Subsingleton.elim (α := Fin 1) _ _
      rw [LoadRect.idx_apply]
      match a with
      | ⟨0, _⟩ =>
        show n + 1 * (z 0).val = ((stRect n ρ hn hρ).emb x 0).val
        rw [hz0, e0]; show n + 1 * 0 = n; omega
      | ⟨1, _⟩ => show 0 + 1 * (z 1).val = 0; rw [hz1]; rfl
      | ⟨2, _⟩ =>
        show ρ % 4 + 4 * (z 2).val = 4 * (z 2).val + ((stRect n ρ hn hρ).emb x 1).val % 4
        rw [e1]; omega
      | ⟨3, _⟩ => show 0 + 1 * (z 3).val = (z 3).val; omega
    show pieceRows (View.readAt (Elt F) arg3.view (ldRect n ρ hn) f3) p x = scrG _ p ((stRect n ρ hn hρ).emb x)
    unfold scrG
    rw [← hv]
    refine (pieceRows_apply _ p x).trans (congrArg _ ?_)
    · funext a
      apply Fin.ext
      match a with
      | ⟨0, _⟩ => show (x 1).val = ((stRect n ρ hn hρ).emb x 1).val / 8; rw [e1]; omega
      | ⟨1, _⟩ => exact e2.symm
  · have hy1 : (y 1).val < 768 := (y 1).isLt
    obtain ⟨q, hq, he⟩ := List.mem_map.1 (hc ▸ stOrder_all (y 0) ⟨(y 1).val % 8, by omega⟩)
    refine ⟨q, hq, ?_⟩
    obtain ⟨n, ρ, hn, hρ, rfl⟩ := hL q hq
    have en : n = (y 0).val := congrArg Prod.fst he
    have eρ : ρ = (y 1).val % 8 := congrArg Prod.snd he
    refine (LoadRect.mem_set _).2 fun a => ?_
    match a with
    | ⟨0, _⟩ => exact ⟨0, Nat.zero_lt_one, by show (y 0).val = n + 1 * 0; omega⟩
    | ⟨1, _⟩ => exact ⟨(y 1).val / 8, by show _ < 96; omega, by show (y 1).val = ρ + 8 * ((y 1).val / 8); omega⟩
    | ⟨2, _⟩ => exact ⟨(y 2).val, (y 2).isLt, by show (y 2).val = 0 + 1 * (y 2).val; omega⟩

/-! ## The output scales -/

/-- Tokens `j, j + 4, …` of the output scales. -/
abbrev osRect (j : Nat) (hj : j < 4) : Rect S1x512x96 where
  off := ![0, j, 0]
  size := S1x128x96.size
  stride := ![1, 4, 1]
  inb a := by
    right
    match a with
    | ⟨0, _⟩ => show 0 + 1 * (1 - 1) < 1; omega
    | ⟨1, _⟩ => show j + 4 * (128 - 1) < 512; omega
    | ⟨2, _⟩ => show 0 + 1 * (96 - 1) < 96; omega
  stride_pos := by decide

/-- Rows `2j, 2j + 8, …` of the scratch of the scales. -/
abbrev otRect (j : Nat) (hj : j < 4) : LoadRect S768x128 where
  off := ![2 * j, 0]
  size := S96x128.size
  stride := ![8, 1]
  inb a := by
    right
    match a with
    | ⟨0, _⟩ => show 2 * j + 8 * (96 - 1) < 768; omega
    | ⟨1, _⟩ => show 0 + 1 * (128 - 1) < 128; omega

/-- A block's scales with the tokens leading. -/
def turnO (v : Vec F S96x128 .f32) : FVec F S1x128x96 .f32 :=
  shapeCast S1x128x96 (transpose S128x96 [1, 0] v transposes_S96x128_p1_0_S128x96 : FVec F S128x96 .f32) shapeCasts_S128x96_S1x128x96

theorem turnO_apply (v : Vec F S96x128 .f32) (x : S1x128x96.Idx) : turnO v x = v (ix2 (x 2) (x 1)) := by
  refine (shapeCast_apply _ _ x (ix2 (x 1) (x 2)) ?_).trans ?_
  · have hx0 : x 0 = (0 : Fin 1) := Subsingleton.elim (α := Fin 1) _ _
    rw [Shape.rowMajor_val_two, Shape.rowMajor_val_three, hx0]
    show (x 1).val * 96 + (x 2).val = ((0 : Nat) * 128 + (x 1).val) * 96 + (x 2).val
    omega
  · refine transpose_apply _ _ _ _ (ix2 (x 2) (x 1)) fun b => ?_
    match b with
    | ⟨0, _⟩ => rfl
    | ⟨1, _⟩ => rfl

/-- The output scales out of the scratch of the scales. -/
def outScale (g : S768x128.Idx → F .f32) : S1x512x96.Idx → F .f32 :=
  fun y => g (ix2 ⟨8 * (y 2).val + 2 * ((y 1).val % 4), by have : (y 2).val < 96 := (y 2).isLt; omega⟩
    ⟨(y 1).val / 4, by have : (y 1).val < 512 := (y 1).isLt; omega⟩)

/-- A strided store of the output scales. -/
def IsOs (arg11 : Memref sig .tc .vmem S768x128 .f32) (f11 : arg11.view.ty.Contents (Elt F)) (q : View.Piece (Elt F) S1x512x96 .f32) : Prop :=
  ∃ j hj, q = ⟨osRect j hj, turnO (View.readAt (Elt F) arg11.view (otRect j hj) f11)⟩

/-- The output scales after the four stores. -/
theorem os_read (arg11 : Memref sig .tc .vmem S768x128 .f32) (f11 : arg11.view.ty.Contents (Elt F))
    (v : View sig .tc .vmem S1x512x96 .f32) (f : v.ty.Contents (Elt F)) (L : List (View.Piece (Elt F) S1x512x96 .f32))
    (hL : ∀ q ∈ L, IsOs arg11 f11 q) (hc : ∀ j : Fin 4, j.val ∈ L.map fun q => q.1.off 1) :
    v.read (Elt F) (v.writes (Elt F) f L) = outScale (arg11.view.read (Elt F) f11) := by
  funext y
  refine read_writes_of_pieces v f _ L (fun q hq x => ?_) y ?_
  · obtain ⟨j, hj, rfl⟩ := hL q hq
    have h1 : (x 1).val < 128 := (x 1).isLt
    have h2 : (x 2).val < 96 := (x 2).isLt
    have hx0 : x 0 = (0 : Fin 1) := Subsingleton.elim (α := Fin 1) _ _
    have e1 : ((osRect j hj).emb x 1).val = j + 4 * (x 1).val := by
      rw [Rect.emb_apply]; rfl
    have e2 : ((osRect j hj).emb x 2).val = (x 2).val := by
      rw [Rect.emb_apply]; show 0 + 1 * (x 2).val = _; omega
    show turnO (View.readAt (Elt F) arg11.view (otRect j hj) f11) x = outScale _ ((osRect j hj).emb x)
    unfold outScale
    refine (turnO_apply _ x).trans ?_
    rw [View.readAt_apply]
    refine congrArg _ (funext fun a => Fin.ext ?_)
    rw [LoadRect.idx_apply]
    match a with
    | ⟨0, _⟩ =>
      show 2 * j + 8 * (x 2).val = 8 * ((osRect j hj).emb x 2).val + 2 * (((osRect j hj).emb x 1).val % 4)
      rw [e1, e2]; omega
    | ⟨1, _⟩ =>
      show 0 + 1 * (x 1).val = ((osRect j hj).emb x 1).val / 4
      rw [e1]; omega
  · have hy1 : (y 1).val < 512 := (y 1).isLt
    obtain ⟨q, hq, he⟩ := List.mem_map.1 (hc ⟨(y 1).val % 4, by omega⟩)
    refine ⟨q, hq, ?_⟩
    obtain ⟨j, hj, rfl⟩ := hL q hq
    have ej : j = (y 1).val % 4 := he
    refine (LoadRect.mem_set _).2 fun a => ?_
    match a with
    | ⟨0, _⟩ => exact ⟨0, Nat.zero_lt_one, by have : (y 0).val < 1 := (y 0).isLt; show (y 0).val = 0 + 1 * 0; omega⟩
    | ⟨1, _⟩ => exact ⟨(y 1).val / 4, by show _ < 128; omega, by show (y 1).val = j + 4 * ((y 1).val / 4); omega⟩
    | ⟨2, _⟩ => exact ⟨(y 2).val, (y 2).isLt, by show (y 2).val = 0 + 1 * (y 2).val; omega⟩

end Cert.KernelIdeal.Hand
-- ==== Proof.KernelValue.lean ====
/-
The kernel's body, with what it leaves in its two outputs.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.Scratch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

/-- The rows' numbers. -/
def rowIds : IVec S8x128 32 := iota .tc S8x128 32 [0] iota_S8x128_d0_w32

/-- What the kernel leaves in the packed output's block, out of its inputs' blocks. -/
def outPacked (x2 : S8x1x512x1536.Idx → Elt F .i8) (x3 : S8x1x512x96.Idx → Elt F .f32) : S1x512x1536.Idx → Elt F .i8 :=
  byteG rowIds (scrG x3) x2

/-- What the kernel leaves in the scales' block. -/
def outScales (x2 : S8x1x512x1536.Idx → Elt F .i8) (x3 : S8x1x512x96.Idx → Elt F .f32) : S1x512x96.Idx → Elt F .f32 :=
  outScale (scaleG rowIds (scrG x3) x2)

/-- The stores of one piece, each in turn. -/
theorem rdS_eq (arg3 : Memref sig .tc .vmem S8x1x512x96 .f32) (f3 : arg3.view.ty.Contents (Elt F))
    (arg6 arg7 arg8 : Memref sig .tc .vmem S8x768x128 .f32) (X6 : arg6.view.ty.Contents (Elt F)) (X7 : arg7.view.ty.Contents (Elt F))
    (X8 : arg8.view.ty.Contents (Elt F)) (h6 : arg6.view.read (Elt F) X6 = scrG (arg3.view.read (Elt F) f3) 0)
    (h7 : arg7.view.read (Elt F) X7 = scrG (arg3.view.read (Elt F) f3) 1) (h8 : arg8.view.read (Elt F) X8 = scrG (arg3.view.read (Elt F) f3) 2) :
    rdS arg6 arg7 arg8 X6 X7 X8 = scrG (arg3.view.read (Elt F) f3) := by
  funext p
  match p with
  | 0 => exact h6
  | 1 => exact h7
  | 2 => exact h8

set_option maxHeartbeats 4000000 in
/-- The body's triple, for any continuation: from the two inputs' staging memrefs at given blocks and every other memref at
    anything, the kernel runs to its return, handing back the inputs as they were, the outputs as above, and the scratch at some contents. -/
theorem kernelRunV (c : Dev nD) (i : grid0.Coords)
    (arg2 : Memref sig .tc .vmem S8x1x512x1536 .i8) (harg2 : arg2.IsWhole) (arg3 : Memref sig .tc .vmem S8x1x512x96 .f32) (harg3 : arg3.IsWhole)
    (arg4 : Memref sig .tc .vmem S1x512x1536 .i8) (harg4 : arg4.IsWhole) (arg5 : Memref sig .tc .vmem S1x512x96 .f32) (harg5 : arg5.IsWhole)
    (arg6 : Memref sig .tc .vmem S8x768x128 .f32) (harg6 : arg6.IsWhole) (arg7 : Memref sig .tc .vmem S8x768x128 .f32) (harg7 : arg7.IsWhole)
    (arg8 : Memref sig .tc .vmem S8x768x128 .f32) (harg8 : arg8.IsWhole) (arg9 : Memref sig .tc .vmem S8x128x128 .i32) (harg9 : arg9.IsWhole)
    (arg10 : Memref sig .tc .vmem S128x128 .i32) (harg10 : arg10.IsWhole) (arg11 : Memref sig .tc .vmem S768x128 .f32) (harg11 : arg11.IsWhole)
    (x2 : S8x1x512x1536.Idx → Elt F .i8) (x3 : S8x1x512x96.Idx → Elt F .f32) (K : PUnit → sProp 𝕄) :
    iprop(owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3
          ∗ owns (c : Thread nD τ) arg4 fullShare (outPacked x2 x3) ∗ owns (c : Thread nD τ) arg5 fullShare (outScales x2 x3)
          ∗ (∃ d, owns (c : Thread nD τ) arg6 fullShare d) ∗ (∃ d, owns (c : Thread nD τ) arg7 fullShare d)
          ∗ (∃ d, owns (c : Thread nD τ) arg8 fullShare d) ∗ (∃ d, owns (c : Thread nD τ) arg9 fullShare d)
          ∗ (∃ d, owns (c : Thread nD τ) arg10 fullShare d) ∗ (∃ d, owns (c : Thread nD τ) arg11 fullShare d)) -∗ K ⟨⟩))
      ⊢ wp frame (wpE (defs₀ (F := F)) Variants.none c none) Set.univ
          (cc0__hop_kernel i arg2 harg2 arg3 harg3 arg4 harg4 arg5 harg5 arg6 harg6 arg7 harg7 arg8 harg8 arg9 harg9 arg10 harg10 arg11 harg11) K := by
  simp only [cc0__hop_kernel_eq_skeleton]; unfold cc0__hop_kernel_skel
  unfold owns
  iintro ⟨⟨%f2, %h2, H2⟩, ⟨%f3, %h3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst h2 h3
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (loop_read4 ..).trans (congrArg (fun s => byteG rowIds s _) (rdS_eq arg3 f3 arg6 arg7 arg8 _ _ _ ?_ ?_ ?_))
    all_goals
      refine scr_read arg3 f3 _ _ _ _ ?_ ?_
      · repeat refine List.forall_mem_cons.2 ⟨⟨_, _, by decide, by decide, rfl⟩, ?_⟩
        exact fun _ h => absurd h List.not_mem_nil
      · rfl
  isplitl [H5]
  · iexists _; isplitr; swap; · iexact H5
    ipureintro
    apply Eq.trans (os_read arg11 _ arg5.view _ _ ?hL ?hc)
    case hL =>
      repeat refine List.forall_mem_cons.2 ⟨⟨_, by decide, rfl⟩, ?_⟩
      exact fun _ h => absurd h List.not_mem_nil
    case hc => simp only [List.map_cons, List.map_nil]; decide
    refine congrArg outScale
      ((loop_read11 ..).trans (congrArg (fun s => scaleG rowIds s _) (rdS_eq arg3 f3 arg6 arg7 arg8 _ _ _ ?_ ?_ ?_)))
    all_goals
      refine scr_read arg3 f3 _ _ _ _ ?_ ?_
      · repeat refine List.forall_mem_cons.2 ⟨⟨_, _, by decide, by decide, rfl⟩, ?_⟩
        exact fun _ h => absurd h List.not_mem_nil
      · rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.KernelIdeal.Hand
-- ==== Proof.KernelRun.lean ====
/-
The kernel's run, with what its two output arrays hold after it, as functions of its two input arrays.
-/
module

public import proofs.«01_k».proof.Proof.KernelValue
public import Idealize.ShloMosaic.Lib.Pipeline.ValueKit

@[expose] public section

noncomputable section

namespace Cert.KernelIdeal.Hand.Out

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; the inputs' blocks left in place, the outputs' blocks at
    what the body computes of them; the scratch between the points at any contents; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => outPacked (iblk m c 0 t) (iblk m c 1 t)
    | 3 => outScales (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by dsimp only [dats]
theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d

/-- The scratch held at some contents, memref by memref, and the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
        ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    show (dats m 0 c).after 0 t = iblk m c 0 t from rfl, show (dats m 0 c).after 1 t = iblk m c 1 t from rfl,
    show (dats m 0 c).after 2 t = outPacked (iblk m c 0 t) (iblk m c 1 t) from rfl,
    show (dats m 0 c).after 3 t = outScales (iblk m c 0 t) (iblk m c 1 t) from rfl]
  simp only [before0_0, before0_1]
  iintro ⟨⟨⟨S0, S1, S2, S3, S4, S5⟩, Hg⟩, HO, ⟨%d0, H0⟩, ⟨%d1, H1⟩, ⟨%d2, H2⟩, ⟨%d3, H3⟩⟩
  iapply (kernelRunV c (grid0.coords t) (st0_0 t) _ (st0_1 t) _ (st0_2 t) _ (st0_3 t) _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, H3, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [H0]; · iexact H0
  isplitl [H1]; · iexact H1
  isplitl [H2]; · iexact H2
  iexact H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

-- the implicit arguments are found by unifying the conclusion with this statement, which unifies only when unification may
-- unfold plain definitions in a metavariable's type
set_option backward.isDefEq.respectTransparency.types false in
theorem run_main :
    θ_run defs (onTc (τ := τ) (main (F := F))) (s₀ m ρ)
      (fun r => Pipeline.FramePost cfgs (dats m) 0 (V m) r) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-! ## The arrays after the run -/

/-- The block of the shards that grid point `(b, i)` reads. -/
def codesBlk (X : S8x12x1024x1536.Idx → Elt F .i8) (b : Fin 12) (i : Fin 2) : S8x1x512x1536.Idx → Elt F .i8 :=
  fun y => X (ValueIdx.ix4 (y 0) b ⟨512 * i + (y 2).val, by have := i.2; have : (y 2).val < 512 := (y 2).2; omega⟩ (y 3))

/-- The block of the scales that grid point `(b, i)` reads. -/
def scalesBlk (S : S8x12x1024x96.Idx → Elt F .f32) (b : Fin 12) (i : Fin 2) : S8x1x512x96.Idx → Elt F .f32 :=
  fun y => S (ValueIdx.ix4 (y 0) b ⟨512 * i + (y 2).val, by have := i.2; have : (y 2).val < 512 := (y 2).2; omega⟩ (y 3))

/-- The half of the tokens a token is in. -/
def half (T : Fin 1024) : Fin 2 := ⟨T / 512, by have := T.2; omega⟩

/-- A token's number in its half. -/
def inHalf (T : Fin 1024) : Fin 512 := ⟨T % 512, by omega⟩

/-- The packed output, out of the two inputs. -/
def packedArr (X : S8x12x1024x1536.Idx → Elt F .i8) (S : S8x12x1024x96.Idx → Elt F .f32) : S12x1024x1536.Idx → Elt F .i8 :=
  fun y => outPacked (codesBlk X (y 0) (half (y 1))) (scalesBlk S (y 0) (half (y 1))) (ValueIdx.ix3 0 (inHalf (y 1)) (y 2))

/-- The scales output, out of the two inputs. -/
def scalesArr (X : S8x12x1024x1536.Idx → Elt F .i8) (S : S8x12x1024x96.Idx → Elt F .f32) : S12x1024x96.Idx → Elt F .f32 :=
  fun y => outScales (codesBlk X (y 0) (half (y 1))) (scalesBlk S (y 0) (half (y 1))) (ValueIdx.ix3 0 (inHalf (y 1)) (y 2))

/-- Every window's block index, at every point. -/
theorem idx : ∀ t : Fin cfg0.N,
    (win0_0.index t 0 = 0 ∧ win0_0.index t 1 = t / 2 ∧ win0_0.index t 2 = t % 2 ∧ win0_0.index t 3 = 0)
    ∧ (win0_1.index t 0 = 0 ∧ win0_1.index t 1 = t / 2 ∧ win0_1.index t 2 = t % 2 ∧ win0_1.index t 3 = 0)
    ∧ (win0_2.index t 0 = t / 2 ∧ win0_2.index t 1 = t % 2 ∧ win0_2.index t 2 = 0)
    ∧ (win0_3.index t 0 = t / 2 ∧ win0_3.index t 1 = t % 2 ∧ win0_3.index t 2 = 0) := by decide +kernel

theorem lt24 (t : Fin cfg0.N) : t.val < 24 := t.2

def bOf (t : Fin cfg0.N) : Fin 12 := ⟨t / 2, by have := lt24 t; omega⟩
def iOf (t : Fin cfg0.N) : Fin 2 := ⟨t % 2, by omega⟩

theorem iblk0_eq (c : Dev nD) (t : Fin cfg0.N) :
    (iblk m c 0 t : S8x1x512x1536.Idx → Elt F .i8) = codesBlk (m ((c.tc : Thread nD τ).loc main_arg0)) (bOf t) (iOf t) := by
  funext y
  unfold codesBlk bOf iOf
  have h1 : (y 1).val < 1 := (y 1).2
  blk_ext [iblk, V, idx t]

theorem iblk1_eq (c : Dev nD) (t : Fin cfg0.N) :
    (iblk m c 1 t : S8x1x512x96.Idx → Elt F .f32) = scalesBlk (m ((c.tc : Thread nD τ).loc main_arg1)) (bOf t) (iOf t) := by
  funext y
  unfold scalesBlk bOf iOf
  have h1 : (y 1).val < 1 := (y 1).2
  blk_ext [iblk, V, idx t]

theorem packedArr_at (X : S8x12x1024x1536.Idx → Elt F .i8) (S : S8x12x1024x96.Idx → Elt F .f32) (b : Fin 12) (i : Fin 2)
    (y : S1x512x1536.Idx) (g : S12x1024x1536.Idx) (h0 : (g 0).val = b.val) (h1 : (g 1).val = 512 * i.val + (y 1).val)
    (h2 : (g 2).val = (y 2).val) : outPacked (codesBlk X b i) (scalesBlk S b i) y = packedArr X S g := by
  have hy1 : (y 1).val < 512 := (y 1).2
  have e0 : g 0 = b := Fin.ext h0
  have e1 : half (g 1) = i := Fin.ext (by show (g 1).val / 512 = _; rw [h1]; omega)
  have e2 : (ValueIdx.ix3 0 (inHalf (g 1)) (g 2) : S1x512x1536.Idx) = y := funext fun a => by
    match a with
    | 0 => exact Subsingleton.elim (α := Fin 1) _ _
    | 1 => exact Fin.ext (by show (g 1).val % 512 = _; rw [h1]; omega)
    | 2 => exact Fin.ext h2
  unfold packedArr
  rw [e0, e1]
  exact congrArg _ e2.symm

theorem scalesArr_at (X : S8x12x1024x1536.Idx → Elt F .i8) (S : S8x12x1024x96.Idx → Elt F .f32) (b : Fin 12) (i : Fin 2)
    (y : S1x512x96.Idx) (g : S12x1024x96.Idx) (h0 : (g 0).val = b.val) (h1 : (g 1).val = 512 * i.val + (y 1).val)
    (h2 : (g 2).val = (y 2).val) : outScales (codesBlk X b i) (scalesBlk S b i) y = scalesArr X S g := by
  have hy1 : (y 1).val < 512 := (y 1).2
  have e0 : g 0 = b := Fin.ext h0
  have e1 : half (g 1) = i := Fin.ext (by show (g 1).val / 512 = _; rw [h1]; omega)
  have e2 : (ValueIdx.ix3 0 (inHalf (g 1)) (g 2) : S1x512x96.Idx) = y := funext fun a => by
    match a with
    | 0 => exact Subsingleton.elim (α := Fin 1) _ _
    | 1 => exact Fin.ext (by show (g 1).val % 512 = _; rw [h1]; omega)
    | 2 => exact Fin.ext h2
  unfold scalesArr
  rw [e0, e1]
  exact congrArg _ e2.symm

theorem final2 (c : Dev nD) : (dats m 0 c).arrAt 2 cfg0.N
    = packedArr (m ((c.tc : Thread nD τ).loc main_arg0)) (m ((c.tc : Thread nD τ).loc main_arg1)) := by
  refine (dats m 0 c).arrAt_eq_of_covers 2 _ (by decide +kernel) fun t hf y => ?_
  have h0 : (y 0).val < 1 := (y 0).2
  blk_simp
  show outPacked (iblk m c 0 t) (iblk m c 1 t) y = _
  rw [iblk0_eq, iblk1_eq]
  refine packedArr_at _ _ _ _ y _ ?_ ?_ ?_
  · unfold bOf; blk_simp [idx t]
  · show _ = 512 * (t.val % 2) + (y 1).val
    blk_simp [idx t]; omega
  · blk_simp [idx t]

theorem final3 (c : Dev nD) : (dats m 0 c).arrAt 3 cfg0.N
    = scalesArr (m ((c.tc : Thread nD τ).loc main_arg0)) (m ((c.tc : Thread nD τ).loc main_arg1)) := by
  refine (dats m 0 c).arrAt_eq_of_covers 3 _ (by decide +kernel) fun t hf y => ?_
  have h0 : (y 0).val < 1 := (y 0).2
  blk_simp
  show outScales (iblk m c 0 t) (iblk m c 1 t) y = _
  rw [iblk0_eq, iblk1_eq]
  refine scalesArr_at _ _ _ _ y _ ?_ ?_ ?_
  · unfold bOf; blk_simp [idx t]
  · show _ = 512 * (t.val % 2) + (y 1).val
    blk_simp [idx t]; omega
  · blk_simp [idx t]

/-- The run: the packed output and the scales are as above, the inputs as they were. -/
theorem run : θ_run defs (onTc (τ := τ) (main (F := F))) (s₀ m ρ) (fun r => ∀ c : Dev nD,
    r.2.mem ((c.tc : Thread nD τ).loc main_v0_0) = packedArr (m ((c.tc : Thread nD τ).loc main_arg0)) (m ((c.tc : Thread nD τ).loc main_arg1))
    ∧ r.2.mem ((c.tc : Thread nD τ).loc main_v0_1) = scalesArr (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Hand.Out

end
-- ==== Proof.Spec.lean ====
/-
One block's contraction over the extended reals: the kernel adds the eight products three times over, once for each piece of the
scales, where the second and the third piece are what the first leaves of a scale, `s - s` and `(s - s) - (s - s)`. The magnitude of
the sum is that of the plain contraction, and where the two differ both are infinite.
-/
module

public import Idealize.ShloMosaic.PureOps.Ideal
public import Mathlib.Data.EReal.Operations

@[expose] public section

noncomputable section

namespace Cert.Hand

/-- The plain contraction of eight codes with eight scales. -/
def dot (c s : Fin 8 → EReal) : EReal := ∑ n, c n * s n

/-- The second piece of a scale, and the third. -/
def rest (x : EReal) : EReal := x - x

/-- The kernel's contraction: the third pieces, the second ones, then the scales themselves. -/
def dot3 (c s : Fin 8 → EReal) : EReal :=
  ∑ n, c n * rest (rest (s n)) + ∑ n, c n * rest (s n) + ∑ n, c n * s n

/-- The magnitude. -/
def mag (x : EReal) : EReal := max x (-x)

theorem mag_top : mag ⊤ = ⊤ := by simp [mag]
theorem mag_bot : mag ⊥ = ⊤ := by simp [mag]

theorem rest_coe (r : ℝ) : rest (r : EReal) = 0 := by
  unfold rest; rw [← EReal.coe_sub, sub_self, EReal.coe_zero]
theorem rest_top : rest ⊤ = ⊥ := by simp [rest]
theorem rest_bot : rest ⊥ = ⊥ := by simp [rest]

theorem sum_eq_bot {ι : Type} (t : Finset ι) (f : ι → EReal) (i : ι) (hi : i ∈ t) (h : f i = ⊥) : ∑ j ∈ t, f j = ⊥ := by
  classical
  rw [← Finset.add_sum_erase t f hi, h, EReal.bot_add]

theorem sum_cases {ι : Type} (t : Finset ι) (f : ι → EReal) (i : ι) (hi : i ∈ t) (h : f i = ⊤) :
    ∑ j ∈ t, f j = ⊤ ∨ ∑ j ∈ t, f j = ⊥ := by
  classical
  rw [← Finset.add_sum_erase t f hi, h]
  by_cases hb : ∑ j ∈ t.erase i, f j = ⊥
  · right; rw [hb, EReal.add_bot]
  · left; exact EReal.top_add_of_ne_bot hb

theorem mul_inf (r : ℝ) (hr : r ≠ 0) (x : EReal) (hx : x = ⊤ ∨ x = ⊥) : (r : EReal) * x = ⊤ ∨ (r : EReal) * x = ⊥ := by
  rcases lt_or_gt_of_ne hr with h | h <;> rcases hx with rfl | rfl
  · right; exact EReal.coe_mul_top_of_neg h
  · left; exact EReal.coe_mul_bot_of_neg h
  · left; exact EReal.coe_mul_top_of_pos h
  · right; exact EReal.coe_mul_bot_of_pos h

/-- The two contractions agree, or both are infinite. -/
theorem dot3_cases (c : Fin 8 → ℝ) (s : Fin 8 → EReal) :
    dot3 (fun n => c n) s = dot (fun n => c n) s
      ∨ (mag (dot3 (fun n => c n) s) = ⊤ ∧ mag (dot (fun n => c n) s) = ⊤) := by
  by_cases hfin : ∀ n, c n = 0 ∨ ∃ r : ℝ, s n = r
  · left
    have h1 : ∀ n, (c n : EReal) * rest (s n) = 0 := by
      intro n
      rcases hfin n with h | ⟨r, h⟩
      · rw [h, EReal.coe_zero, zero_mul]
      · rw [h, rest_coe, mul_zero]
    have h2 : ∀ n, (c n : EReal) * rest (rest (s n)) = 0 := by
      intro n
      rcases hfin n with h | ⟨r, h⟩
      · rw [h, EReal.coe_zero, zero_mul]
      · rw [h, rest_coe, ← EReal.coe_zero, rest_coe, EReal.coe_zero, mul_zero]
    unfold dot3 dot
    rw [Finset.sum_eq_zero fun n _ => h1 n, Finset.sum_eq_zero fun n _ => h2 n, zero_add, zero_add]
  · right
    push Not at hfin
    obtain ⟨n, hc, hs⟩ := hfin
    have hinf : s n = ⊤ ∨ s n = ⊥ := by
      induction h : s n with
      | bot => right; rfl
      | top => left; rfl
      | coe r => exact absurd h (hs r)
    have hr : rest (s n) = ⊥ := by rcases hinf with h | h <;> rw [h] <;> first | exact rest_top | exact rest_bot
    have key : ∀ f : Fin 8 → EReal, (f n = ⊤ ∨ f n = ⊥) → (∑ n, f n = ⊤ ∨ ∑ n, f n = ⊥) := by
      intro f h
      rcases h with h | h
      · exact sum_cases _ f n (Finset.mem_univ n) h
      · right; exact sum_eq_bot _ f n (Finset.mem_univ n) h
    have a0 := key (fun n => c n * s n) (mul_inf _ hc _ hinf)
    have a1 := key (fun n => c n * rest (s n)) (mul_inf _ hc _ (Or.inr hr))
    have a2 := key (fun n => c n * rest (rest (s n))) (mul_inf _ hc _ (Or.inr (by rw [hr, rest_bot])))
    have hm : ∀ x : EReal, (x = ⊤ ∨ x = ⊥) → mag x = ⊤ := by
      rintro x (rfl | rfl)
      · exact mag_top
      · exact mag_bot
    have hadd : ∀ x y : EReal, (x = ⊤ ∨ x = ⊥) → (y = ⊤ ∨ y = ⊥) → (x + y = ⊤ ∨ x + y = ⊥) := by
      rintro x y (rfl | rfl) (rfl | rfl) <;> simp
    exact ⟨hm _ (hadd _ _ (hadd _ _ a2 a1) a0), hm _ a0⟩

/-- So the magnitudes agree. -/
theorem mag_dot3 (c : Fin 8 → ℝ) (s : Fin 8 → EReal) : mag (dot3 (fun n => c n) s) = mag (dot (fun n => c n) s) := by
  rcases dot3_cases c s with h | ⟨h, h'⟩
  · rw [h]
  · rw [h, h']

end Cert.Hand
-- ==== Proof.Quant.lean ====
/-
The requantization of one token over the extended reals, as both programs compute it: the largest magnitude of a block of sixteen
byte columns, the block's scale, the codes and the byte two of them make. Two rows of sums that agree entry by entry, or are
infinite at the same entries, requantize to the same scales and codes.
-/
module

public import proofs.«01_k».proof.Proof.Spec

@[expose] public section

noncomputable section

namespace Cert.Hand

open Idealize.ShloMosaic

/-- Byte column `k` of block `B`. -/
def col (B : Fin 96) (k : Fin 16) : Fin 1536 := ⟨16 * B.val + k.val, by omega⟩

/-- The block of a byte column. -/
def blockOf (P : Fin 1536) : Fin 96 := ⟨P.val / 16, by omega⟩

/-- A nibble of a byte as a signed code: the low one, the high one. -/
def nib (b : BitVec 8) (hi : Fin 2) : BitVec 32 := (b.extractLsb' (4 * hi.val) 4).signExtend 32

/-- The code as a real. -/
def code (b : BitVec 8) (hi : Fin 2) : ℝ := ((nib b hi).toInt : ℝ)

/-- The largest magnitude of a block. -/
def amax (A : Fin 1536 → Fin 2 → EReal) (B : Fin 96) : EReal :=
  Finset.univ.sup fun p : Fin 16 × Fin 2 => mag (A (col B p.1) p.2)

/-- The scale out of the largest magnitude. -/
def scaleOf (a : EReal) : EReal :=
  Scalar.select (Ideal.cmp .oeq a (Ideal.ofBits .f32 0x00000000#32)) (Ideal.ofBits .f32 0x3F800000#32)
    (Ideal.div a (Ideal.ofBits .f32 0x40E00000#32))

/-- The code of a sum at a scale. -/
def codeOf (sc x : EReal) : BitVec 32 :=
  Ideal.fptosi 32 (min (((7#32 : BitVec 32).toInt : ℝ) : EReal)
    (max (((4294967289#32 : BitVec 32).toInt : ℝ) : EReal) (Ideal.liftRound Ideal.roundHalfEven (Ideal.div x sc))))

/-- The byte of a low and a high code. -/
def byteOf (lo hi : BitVec 32) : BitVec 8 := BitVec.ofNat 8 (lo.toNat % 16 + 16 * (hi.toNat % 16))

/-- The scale of block `B` of a row of sums. -/
def rowScale (A : Fin 1536 → Fin 2 → EReal) (B : Fin 96) : EReal := scaleOf (amax A B)

/-- The code of an entry of a row of sums. -/
def rowCode (A : Fin 1536 → Fin 2 → EReal) (P : Fin 1536) (hi : Fin 2) : BitVec 32 := codeOf (rowScale A (blockOf P)) (A P hi)

/-- The byte of column `P`. -/
def rowByte (A : Fin 1536 → Fin 2 → EReal) (P : Fin 1536) : BitVec 8 := byteOf (rowCode A P 0) (rowCode A P 1)

/-- The plain sums of a token: its eight rows of bytes and of scales. -/
def sums (x : Fin 8 → Fin 1536 → BitVec 8) (s : Fin 8 → Fin 96 → EReal) (P : Fin 1536) (hi : Fin 2) : EReal :=
  dot (fun n => (code (x n P) hi : EReal)) fun n => s n (blockOf P)

/-- The kernel's sums of a token. -/
def sums3 (x : Fin 8 → Fin 1536 → BitVec 8) (s : Fin 8 → Fin 96 → EReal) (P : Fin 1536) (hi : Fin 2) : EReal :=
  dot3 (fun n => (code (x n P) hi : EReal)) fun n => s n (blockOf P)

/-- Equal, or both infinite. -/
def Same (A A' : Fin 1536 → Fin 2 → EReal) : Prop := ∀ P hi, A P hi = A' P hi ∨ (mag (A P hi) = ⊤ ∧ mag (A' P hi) = ⊤)

theorem same_sums (x : Fin 8 → Fin 1536 → BitVec 8) (s : Fin 8 → Fin 96 → EReal) : Same (sums3 x s) (sums x s) :=
  fun P hi => dot3_cases (fun n => code (x n P) hi) fun n => s n (blockOf P)

theorem Same.amax_eq {A A' : Fin 1536 → Fin 2 → EReal} (h : Same A A') (B : Fin 96) : amax A B = amax A' B := by
  unfold amax
  refine congrArg _ (funext fun p => ?_)
  rcases h (col B p.1) p.2 with e | ⟨e, e'⟩
  · rw [e]
  · rw [e, e']

theorem Same.rowScale_eq {A A' : Fin 1536 → Fin 2 → EReal} (h : Same A A') (B : Fin 96) : rowScale A B = rowScale A' B := by
  unfold rowScale; rw [h.amax_eq]

theorem ofBits_zero : Ideal.ofBits .f32 0x00000000#32 = 0 := by simp [Ideal.ofBits, Ideal.ieee]
theorem ofBits_seven : Ideal.ofBits .f32 0x40E00000#32 = ((7 : ℝ) : EReal) := by
  simp [Ideal.ofBits, Ideal.ieee, -EReal.coe_mul]; norm_num

/-- A block with an infinite entry has an infinite scale. -/
theorem scaleOf_top : scaleOf ⊤ = ⊤ := by
  unfold scaleOf Ideal.cmp
  rw [ofBits_zero, ofBits_seven]
  have h7 : ((7 : ℝ) : EReal) ≠ 0 := by rw [← EReal.coe_zero, Ne, EReal.coe_eq_coe_iff]; norm_num
  simp only [EReal.top_ne_zero, decide_false, BitVec.ofBool_false]
  show (if (0#1 : BitVec 1) = 1#1 then _ else Ideal.div ⊤ ((7 : ℝ) : EReal)) = ⊤
  rw [if_neg (by decide)]
  unfold Ideal.div
  rw [if_neg h7, ← EReal.coe_inv]
  exact EReal.top_mul_coe_of_pos (by norm_num)

theorem amax_top {A : Fin 1536 → Fin 2 → EReal} {P : Fin 1536} {hi : Fin 2} (h : mag (A P hi) = ⊤) : amax A (blockOf P) = ⊤ := by
  refine top_le_iff.mp ?_
  rw [← h]
  have e : col (blockOf P) ⟨P.val % 16, by omega⟩ = P := Fin.ext (by unfold col blockOf; simp only; omega)
  have := Finset.le_sup (f := fun p : Fin 16 × Fin 2 => mag (A (col (blockOf P) p.1) p.2)) (Finset.mem_univ (⟨P.val % 16, by omega⟩, hi))
  rwa [e] at this

theorem div_top (x : EReal) : Ideal.div x ⊤ = 0 := by
  unfold Ideal.div
  rw [if_neg EReal.top_ne_zero, EReal.inv_top, mul_zero]

theorem Same.rowCode_eq {A A' : Fin 1536 → Fin 2 → EReal} (h : Same A A') (P : Fin 1536) (hi : Fin 2) : rowCode A P hi = rowCode A' P hi := by
  unfold rowCode
  rw [← h.rowScale_eq]
  rcases h P hi with e | ⟨e, e'⟩
  · rw [e]
  · have : rowScale A (blockOf P) = ⊤ := by unfold rowScale; rw [amax_top e, scaleOf_top]
    rw [this]; unfold codeOf; rw [div_top, div_top]

theorem Same.rowByte_eq {A A' : Fin 1536 → Fin 2 → EReal} (h : Same A A') (P : Fin 1536) : rowByte A P = rowByte A' P := by
  unfold rowByte; rw [h.rowCode_eq, h.rowCode_eq]

/-! ## Bytes and nibbles -/

/-- The low nibble by masking, the high one by shifting, with the sign put back. -/
theorem nib_low (b : BitVec 8) : nib b 0
    = if (8#32).sle (b.setWidth 32 &&& 15#32) then (b.setWidth 32 &&& 15#32) - 16#32 else b.setWidth 32 &&& 15#32 := by
  revert b; unfold nib; decide +kernel
theorem nib_high (b : BitVec 8) : nib b 1
    = if (8#32).sle ((b.setWidth 32).sshiftRight 4) then (b.setWidth 32).sshiftRight 4 - 16#32 else (b.setWidth 32).sshiftRight 4 := by
  revert b; unfold nib; decide +kernel

theorem byte_nibbles : ∀ x y : BitVec 4, ((x.setWidth 32) ||| ((y.setWidth 32) <<< 4)).setWidth 8 = BitVec.ofNat 8 (x.toNat + 16 * y.toNat) := by
  decide +kernel

/-- The byte put together by masks and a shift. -/
theorem byteOf_eq (lo hi : BitVec 32) : ((lo &&& 15#32) ||| ((hi &&& 15#32) <<< 4)).setWidth 8 = byteOf lo hi := by
  have e : ∀ c : BitVec 32, c &&& 15#32 = (c.setWidth 4).setWidth 32 := by
    intro c
    apply BitVec.eq_of_toNat_eq
    rw [BitVec.toNat_and, BitVec.toNat_setWidth, BitVec.toNat_setWidth]
    show c.toNat &&& (2 ^ 4 - 1) = _
    rw [Nat.and_two_pow_sub_one_eq_mod]
    omega
  rw [e, e, byte_nibbles]
  unfold byteOf
  rw [BitVec.toNat_setWidth, BitVec.toNat_setWidth]

end Cert.Hand
-- ==== Proof.Nibbles.lean ====
/-
The code words, bit by bit: the signed nibble a kernel shifts out of a word of four bytes, and the bytes of a word put together of
eight masked codes.
-/
module

public import proofs.«01_k».proof.Proof.Words
public import proofs.«01_k».proof.Proof.Quant
public import Idealize.ShloMosaic.PureOps.Reduce

@[expose] public section

noncomputable section

namespace Cert.KernelIdeal.Hand

open Idealize.ShloMosaic Cert.Hand

/-- Nibble `k` of a word, shifted to the top and back with its sign. -/
def sx (w : BitVec 32) (k : Fin 8) : BitVec 32 :=
  IntOp.shrsi .vector (IntOp.shli .vector w (IntOp.subi 28#32 (IntOp.muli 4#32 (BitVec.ofNat 32 k.val)))) 28#32

theorem sx_eq (w : BitVec 32) (k : Fin 8) : sx w k = (w.extractLsb' (4 * k.val) 4).signExtend 32 := by
  have hsh : sx w k = (w <<< (28 - 4 * k.val)).sshiftRight 28 := by
    unfold sx IntOp.shrsi IntOp.shli IntOp.subi IntOp.muli
    have e : (28#32 - 4#32 * BitVec.ofNat 32 k.val).toNat = 28 - 4 * k.val := by revert k; decide
    rw [if_pos (show (28#32 : BitVec 32).toNat < 32 by decide), if_pos (show (28#32 - 4#32 * BitVec.ofNat 32 k.val).toNat < 32 by rw [e]; omega)]
    show (w <<< (28#32 - 4#32 * BitVec.ofNat 32 k.val).toNat).sshiftRight 28 = _
    rw [e]
  rw [hsh]
  apply BitVec.eq_of_getLsbD_eq
  intro q hq
  have hk := k.isLt
  simp only [BitVec.getLsbD_sshiftRight, BitVec.getLsbD_signExtend, BitVec.msb_eq_getLsbD_last, BitVec.getLsbD_shiftLeft, BitVec.getLsbD_extractLsb']
  by_cases h4 : q < 4
  · have : 28 + q - (28 - 4 * k.val) = 4 * k.val + q := by omega
    simp [h4, this, hq, show ¬ 32 ≤ q by omega, show 28 + q < 32 by omega, show ¬ 28 + q < 28 - 4 * k.val by omega]
  · have : 31 - (28 - 4 * k.val) = 4 * k.val + 3 := by omega
    simp [h4, this, hq, show ¬ 32 ≤ q by omega, show ¬ 28 + q < 32 by omega, show ¬ 31 < 28 - 4 * k.val by omega]

theorem word4_nibble (b : Fin 4 → BitVec 8) (j : Fin 4) (hi : Fin 2) :
    (word4 b).extractLsb' (4 * (2 * j.val + hi.val)) 4 = (b j).extractLsb' (4 * hi.val) 4 := by
  apply BitVec.eq_of_getLsbD_eq
  intro q hq
  have hj := j.isLt
  have hh := hi.isLt
  simp only [BitVec.getLsbD_extractLsb', hq, decide_true, Bool.true_and]
  rw [word4, four_bytes_getLsbD b _ (by omega)]
  have e1 : (⟨(4 * (2 * j.val + hi.val) + q) / 8, by omega⟩ : Fin 4) = j := Fin.ext (by simp only; omega)
  rw [e1]
  congr 1; omega

/-- The kernel's nibble of a word of four tokens' bytes. -/
theorem sx_word4 (b : Fin 4 → BitVec 8) (k : Fin 8) (j : Fin 4) (hi : Fin 2) (h : k.val = 2 * j.val + hi.val) :
    sx (word4 b) k = nib (b j) hi := by
  rw [sx_eq, h, word4_nibble]; rfl

/-- A code masked and moved to its place. -/
def put (c : BitVec 32) (k : Fin 8) : BitVec 32 :=
  IntOp.shli .vector (IntOp.andi c 15#32) (IntOp.muli 4#32 (BitVec.ofNat 32 k.val))

theorem put_toNat (c : BitVec 32) (k : Fin 8) : (put c k).toNat = (c.toNat % 16) * 16 ^ k.val := by
  have hk := k.isLt
  unfold put IntOp.shli IntOp.andi IntOp.muli
  have e : (4#32 * BitVec.ofNat 32 k.val).toNat = 4 * k.val := by revert k; decide
  rw [e, if_pos (by omega)]
  show ((c &&& 15#32) <<< (4#32 * BitVec.ofNat 32 k.val).toNat).toNat = _
  rw [e, BitVec.toNat_shiftLeft, BitVec.toNat_and]
  have h15 : c.toNat &&& (15#32 : BitVec 32).toNat = c.toNat % 16 := Nat.and_two_pow_sub_one_eq_mod c.toNat 4
  rw [h15, Nat.shiftLeft_eq, show 2 ^ (4 * k.val) = 16 ^ k.val by rw [pow_mul]; norm_num]
  refine Nat.mod_eq_of_lt ?_
  have h1 : c.toNat % 16 < 16 := Nat.mod_lt _ (by norm_num)
  have h2 : 16 ^ k.val ≤ 16 ^ 7 := Nat.pow_le_pow_right (by norm_num) (by omega)
  calc c.toNat % 16 * 16 ^ k.val ≤ 15 * 16 ^ 7 := Nat.mul_le_mul (by omega) h2
    _ < 2 ^ 32 := by norm_num

/-- Eight words added up. -/
theorem fold8 (f : Fin 8 → BitVec 32) : (Finset.univ : Finset (Fin 8)).fold IKind.add.op 0#32 f
    = f 0 + (f 1 + (f 2 + (f 3 + (f 4 + (f 5 + (f 6 + (f 7 + 0#32))))))) := rfl

/-- A byte of the word the eight codes make is the byte of two of them. -/
theorem word_byte (c : Fin 8 → BitVec 32) (j : Fin 4) (lo hi : Fin 8) (hlo : lo.val = 2 * j.val) (hhi : hi.val = 2 * j.val + 1) :
    ((Finset.univ : Finset (Fin 8)).fold IKind.add.op 0#32 fun k => put (c k) k).extractLsb' (8 * j.val) 8 = byteOf (c lo) (c hi) := by
  have hw : ((Finset.univ : Finset (Fin 8)).fold IKind.add.op 0#32 fun k => put (c k) k).toNat = ∑ k : Fin 8, ((c k).toNat % 16) * 16 ^ k.val := by
    have hn : ∀ k, (c k).toNat % 16 < 16 := fun k => Nat.mod_lt _ (by norm_num)
    simp only [fold8, Fin.sum_univ_eight, BitVec.toNat_add, put_toNat]
    have := hn 0; have := hn 1; have := hn 2; have := hn 3; have := hn 4; have := hn 5; have := hn 6; have := hn 7
    simp
    omega
  apply BitVec.eq_of_toNat_eq
  rw [BitVec.extractLsb'_toNat, hw, byteOf, BitVec.toNat_ofNat, Nat.shiftRight_eq_div_pow]
  have hn : ∀ k, (c k).toNat % 16 < 16 := fun k => Nat.mod_lt _ (by norm_num)
  have h0 := hn 0; have h1 := hn 1; have h2 := hn 2; have h3 := hn 3; have h4 := hn 4; have h5 := hn 5; have h6 := hn 6; have h7 := hn 7
  simp only [Fin.sum_univ_eight]
  generalize hd : (fun k => (c k).toNat % 16) = d at *
  have hd' : ∀ k, (c k).toNat % 16 = d k := fun k => congrFun hd k
  simp only [hd'] at *
  match j, hlo, hhi with
  | 0, hlo, hhi => obtain rfl : lo = 0 := Fin.ext hlo; obtain rfl : hi = 1 := Fin.ext hhi; simp; omega
  | 1, hlo, hhi => obtain rfl : lo = 2 := Fin.ext hlo; obtain rfl : hi = 3 := Fin.ext hhi; simp; omega
  | 2, hlo, hhi => obtain rfl : lo = 4 := Fin.ext hlo; obtain rfl : hi = 5 := Fin.ext hhi; simp; omega
  | 3, hlo, hhi => obtain rfl : lo = 6 := Fin.ext hlo; obtain rfl : hi = 7 := Fin.ext hhi; simp; omega

end Cert.KernelIdeal.Hand
-- ==== Proof.KernelRead.lean ====
/-
The kernel's arrays over the extended reals, read at an index: the requantization of one token's row of sums.
-/
module

public import proofs.«01_k».proof.Proof.KernelRun
public import proofs.«01_k».proof.Proof.Nibbles
public import Idealize.ShloMosaic.Lib.KernelVsHost

@[expose] public section

set_option maxRecDepth 8192

noncomputable section

namespace Cert.KernelIdeal.Hand

open Idealize.ShloMosaic hiding ix1 ix2 ix3 ix4
open Idealize.ShloMosaic.ValueIdx Cert.KernelIdeal Cert.KernelIdeal.Gen Cert.Hand

/-! ## One product -/

/-- The scale pieces, each row twice. -/
theorem pay13_apply (p : Vec Ideal S1x8x128 .f32) (R : Fin 16) (r : Fin 128) :
    k0_pay13 (F := Ideal) p (ix2 R r) = p (ix3 0 ⟨R.val / 2, by omega⟩ r) := by
  unfold k0_pay13 interleaveRows
  simp only [ite_self]
  show shapeCast (s := S1x8x128) S8x128 p shapeCasts_S1x8x128_S8x128 _ = _
  refine shapeCast_apply (s := S1x8x128) (t := S8x128) _ _ _ _ ?_
  rw [Shape.rowMajor_val_two, Shape.rowMajor_val_three]
  simp [S16x128, S8x128, S1x8x128]

/-- The codes of a word's row. -/
theorem pay39_apply (w : Vec Ideal S1x8x128 .i32) (a : Fin 64) (r : Fin 128) :
    k0_pay39 (F := Ideal) w (ix2 a r)
      = (((sx (w (ix3 0 ⟨a.val / 8, by omega⟩ r)) ⟨a.val % 8, by omega⟩).toInt : ℝ) : EReal) := by
  have h8 : a.val / 8 < 8 := by omega
  have hm : a.val % 8 < 8 := by omega
  unfold k0_pay39
  show (((shapeCast S64x128 _ shapeCasts_S8x8x128_S64x128 (ix2 a r) : BitVec 32).toInt : ℝ) : EReal) = _
  rw [shapeCast_apply (s := S8x8x128) (t := S64x128) _ _ (ix2 a r) (ix3 ⟨a.val / 8, h8⟩ ⟨a.val % 8, hm⟩ r) (by
    rw [Shape.rowMajor_val_two, Shape.rowMajor_val_three]
    show (a.val / 8 * 8 + a.val % 8) * 128 + r.val = a.val * 128 + r.val
    omega)]
  unfold shrsi shli subi muli broadcast sx
  rw [iota_single_apply]
  rw [broadcastTo_apply (s := S8x1x128) (t := S8x8x128) _ broadcasts_S8x1x128_S8x8x128 _ (ix3 ⟨a.val / 8, h8⟩ 0 r) (by
    intro b; match b with | ⟨0, _⟩ => rfl | ⟨1, _⟩ => rfl | ⟨2, _⟩ => rfl)]
  rw [shapeCast_self, shapeCast_apply (s := S8x128) (t := S8x1x128) _ shapeCasts_S8x128_S8x1x128 _ (ix2 ⟨a.val / 8, h8⟩ r) (by
    rw [Shape.rowMajor_val_two, Shape.rowMajor_val_three]; simp [S8x1x128, S8x128])]
  rw [shapeCast_apply (s := S1x8x128) (t := S8x128) _ shapeCasts_S1x8x128_S8x128 _ (ix3 0 ⟨a.val / 8, h8⟩ r) (by
    rw [Shape.rowMajor_val_two, Shape.rowMajor_val_three]; simp [S1x8x128, S8x128])]

theorem prodV_apply (w : Vec Ideal S1x8x128 .i32) (p : Vec Ideal S1x8x128 .f32) (q : Fin 4) (R : Fin 16) (r : Fin 128) :
    prodV w p q (ix2 R r)
      = (((sx (w (ix3 0 ⟨2 * q.val + R.val / 8, by omega⟩ r)) ⟨R.val % 8, by omega⟩).toInt : ℝ) : EReal)
          * (p (ix3 0 ⟨R.val / 2, by omega⟩ r) : EReal) := by
  have ha : 16 * q.val + R.val < 64 := by omega
  show (extractStridedSlice S16x128 ![16 * q.val, 0] (k0_pay39 w) (slicesQ q) (ix2 R r) : EReal) * (k0_pay13 p (ix2 R r) : EReal) = _
  rw [pay13_apply, extractStridedSlice_apply (s := S64x128) (t := S16x128) _ _ (slicesQ q) _ (ix2 ⟨16 * q.val + R.val, ha⟩ r) (by
    intro b; match b with | ⟨0, _⟩ => rfl | ⟨1, _⟩ => exact (Nat.zero_add _).symm), pay39_apply]
  have e1 : (16 * q.val + R.val) / 8 = 2 * q.val + R.val / 8 := by omega
  have e2 : (16 * q.val + R.val) % 8 = R.val % 8 := by omega
  simp only [e1, e2]

/-! ## The sums -/

variable (x2 : S8x1x512x1536.Idx → BitVec 8) (x3 : S8x1x512x96.Idx → EReal)

/-- A token's bytes and scales. -/
def rowX (T : Fin 512) : Fin 8 → Fin 1536 → BitVec 8 := fun n P => x2 (ix4 n 0 T P)
def rowS (T : Fin 512) : Fin 8 → Fin 96 → EReal := fun n B => x3 (ix4 n 0 T B)

theorem turnV_apply (v : Vec Ideal S1x1x128x96 .f32) (B : Fin 96) (r : Fin 128) : turnV (F := Ideal) v (ix2 B r) = v (ix4 0 0 r B) := by
  unfold turnV
  rw [transpose_apply (s := S128x96) (t := S96x128) [1, 0] _ _ (ix2 B r) (ix2 r B) (by intro b; match b with | ⟨0, _⟩ => rfl | ⟨1, _⟩ => rfl)]
  refine shapeCast_apply (s := S1x1x128x96) (t := S128x96) _ _ _ _ ?_
  rw [Shape.rowMajor_val_two, Shape.rowMajor_val_four]; simp [S1x1x128x96, S128x96]

/-- The pieces of a scale. -/
def pieceOf (s : EReal) : Fin 3 → EReal
  | 0 => s
  | 1 => rest s
  | 2 => rest (rest s)

theorem scrG_apply (p : Fin 3) (n : Fin 8) (B : Fin 96) (ρ : Fin 8) (r : Fin 128) (h : 8 * B.val + ρ.val < 768) :
    (scrG (F := Ideal) x3 p (ix3 n ⟨8 * B.val + ρ.val, h⟩ r) : EReal)
      = pieceOf (rowS x3 (tok r ⟨ρ.val % 4, by omega⟩) n B) p := by
  have e : scrG (F := Ideal) x3 p (ix3 n ⟨8 * B.val + ρ.val, h⟩ r) = pieceV (F := Ideal) (scalesAt (F := Ideal) x3 n ⟨ρ.val % 4, by omega⟩) p (ix2 B r) := by
    unfold scrG
    have e1 : (8 * B.val + ρ.val) % 4 = ρ.val % 4 := by omega
    have e2 : (8 * B.val + ρ.val) / 8 = B.val := by omega
    show pieceV (F := Ideal) (scalesAt (F := Ideal) x3 n ⟨(8 * B.val + ρ.val) % 4, _⟩) p (ix2 ⟨(8 * B.val + ρ.val) / 8, _⟩ r) = _
    simp only [e1, e2]
  rw [e]
  match p with
  | 0 =>
    have t := turnV_apply (scalesAt (F := Ideal) x3 n ⟨ρ.val % 4, by omega⟩) B r
    exact t
  | 1 => exact congrArg rest (turnV_apply _ B r)
  | 2 => exact congrArg (fun x => rest (rest x)) (turnV_apply _ B r)

/-- Byte column of a row of sixteen in a block. -/
def colOf (B : Fin 96) (h : Fin 2) (q : Fin 4) (R : Fin 16) : Fin 1536 := ⟨16 * B.val + 8 * h.val + (2 * q.val + R.val / 8), by omega⟩
/-- The place of a row's token in its group of four. -/
def tokRow (R : Fin 16) : Fin 4 := ⟨R.val % 8 / 2, by omega⟩
/-- A row's token. -/
def tokOf (R : Fin 16) (r : Fin 128) : Fin 512 := tok r (tokRow R)
/-- Whether a row holds the high nibbles. -/
def hiOf (R : Fin 16) : Fin 2 := ⟨R.val % 2, by omega⟩

theorem accV_apply (B : Fin 96) (h : Fin 2) (q : Fin 4) (R : Fin 16) (r : Fin 128) :
    (accV (F := Ideal) (Pspec (F := Ideal) (scrG (F := Ideal) x3) B) (Wspec (F := Ideal) x2 B) h q (ix2 R r) : EReal)
      = sums3 (rowX x2 (tokOf R r)) (rowS x3 (tokOf R r)) (colOf B h q R) (hiOf R) := by
  have hb : blockOf (colOf B h q R) = B := Fin.ext (by show (16 * B.val + 8 * h.val + (2 * q.val + R.val / 8)) / 16 = _; omega)
  have key : ∀ (p : Fin 3) (n : Fin 8), (prodV (F := Ideal) (Wspec (F := Ideal) x2 B h n) (Pspec (F := Ideal) (scrG (F := Ideal) x3) B p n) q (ix2 R r) : EReal)
      = (code (rowX x2 (tokOf R r) n (colOf B h q R)) (hiOf R) : EReal) * pieceOf (rowS x3 (tokOf R r) n B) p := by
    intro p n
    rw [prodV_apply]
    refine congrArg₂ (fun a b : EReal => a * b) ?_ ?_
    · exact congrArg (fun z : BitVec 32 => ((z.toInt : ℝ) : EReal))
        (sx_word4 (fun j => x2 (ix4 n 0 (tok r j) (colOf B h q R))) ⟨R.val % 8, by omega⟩ ⟨R.val % 8 / 2, by omega⟩ (hiOf R)
          (by show R.val % 8 = 2 * (R.val % 8 / 2) + R.val % 2; omega))
    · refine (scrG_apply x3 p n B ⟨R.val / 2, by omega⟩ r _).trans ?_
      have e : R.val / 2 % 4 = R.val % 8 / 2 := by omega
      unfold tokOf tokRow
      simp only [e]
  unfold sums3 dot3
  simp only [hb, Fin.sum_univ_eight]
  unfold accV
  simp only [addf, Ideal.addf_def, key, pieceOf]
  simp only [add_assoc]

end Cert.KernelIdeal.Hand
-- ==== Proof.KernelCodes.lean ====
/-
The block's largest magnitude, its scale, its codes and its packed words, read at an index over the extended reals.
-/
module

public import proofs.«01_k».proof.Proof.KernelRead

@[expose] public section

set_option maxRecDepth 8192

noncomputable section

namespace Cert.KernelIdeal.Hand

open Idealize.ShloMosaic hiding ix1 ix2 ix3 ix4
open Idealize.ShloMosaic.ValueIdx Cert.KernelIdeal Cert.KernelIdeal.Gen Cert.Hand

/-! ## The largest magnitude -/

theorem max8V_le (M : Fin 2 → Fin 4 → FVec Ideal S16x128 .f32) (i : S16x128.Idx) (c : EReal) :
    (max8V (F := Ideal) M i : EReal) ≤ c ↔ ∀ h q, mag (M h q i : EReal) ≤ c := by
  show max (max (max (max (max (max (max (mag (M 0 0 i)) (mag (M 0 1 i))) (mag (M 0 2 i))) (mag (M 0 3 i))) (mag (M 1 0 i)))
    (mag (M 1 1 i))) (mag (M 1 2 i))) (mag (M 1 3 i)) ≤ c ↔ _
  simp only [max_le_iff]
  constructor
  · rintro ⟨⟨⟨⟨⟨⟨⟨a, b⟩, d⟩, e⟩, f⟩, g⟩, k⟩, l⟩ h q
    match h, q with
    | 0, 0 => exact a
    | 0, 1 => exact b
    | 0, 2 => exact d
    | 0, 3 => exact e
    | 1, 0 => exact f
    | 1, 1 => exact g
    | 1, 2 => exact k
    | 1, 3 => exact l
  · intro h
    exact ⟨⟨⟨⟨⟨⟨⟨h 0 0, h 0 1⟩, h 0 2⟩, h 0 3⟩, h 1 0⟩, h 1 1⟩, h 1 2⟩, h 1 3⟩

/-- The rows a pair's maximum covers, the two halves of the vector put together. -/
def twoRows (m : FVec Ideal S16x128 .f32) (ρ : Fin 8) (r : Fin 128) : EReal :=
  max (m (ix2 ⟨ρ.val, by omega⟩ r) : EReal) (m (ix2 ⟨8 + ρ.val, by omega⟩ r))

/-- The other row of a pair. -/
def other (ρ : Fin 8) : Fin 8 := if ρ.val % 2 = 0 then ⟨(ρ.val + 1) % 8, by omega⟩ else ⟨(ρ.val + 7) % 8, by omega⟩

theorem pairMaxV_apply (m : FVec Ideal S16x128 .f32) (ρ : Fin 8) (r : Fin 128) :
    (pairMaxV (F := Ideal) rowIds m (ix2 ρ r) : EReal) = max (twoRows m ρ r) (twoRows m (other ρ) r) := by
  have ha : ∀ ρ : Fin 8, (maximumf (F := Ideal) (extractStridedSlice S8x128 ![0, 0] m slices_S16x128_o0_0_S8x128 : FVec Ideal S8x128 .f32)
      (extractStridedSlice S8x128 ![8, 0] m slices_S16x128_o8_0_S8x128) (ix2 ρ r) : EReal) = twoRows m ρ r := by
    intro ρ
    refine congrArg₂ (fun a b : EReal => max a b) ?_ ?_
    · exact extractStridedSlice_apply (s := S16x128) (t := S8x128) _ _ _ _ (ix2 ⟨ρ.val, by omega⟩ r) (by
        intro b; match b with | ⟨0, _⟩ => exact (Nat.zero_add _).symm | ⟨1, _⟩ => exact (Nat.zero_add _).symm)
    · exact extractStridedSlice_apply (s := S16x128) (t := S8x128) _ _ _ _ (ix2 ⟨8 + ρ.val, by omega⟩ r) (by
        intro b; match b with | ⟨0, _⟩ => rfl | ⟨1, _⟩ => exact (Nat.zero_add _).symm)
  unfold pairMaxV
  refine congrArg₂ (fun a b : EReal => max a b) (ha ρ) ?_
  have hid : rowIds (ix2 ρ r) = BitVec.ofNat 32 ρ.val := iota_single_apply .tc S8x128 32 0 _ _
  have hc : cmpi .eq (andi rowIds (broadcast S8x128 1#32)) (broadcast S8x128 0#32) (ix2 ρ r)
      = BitVec.ofBool (BitVec.ofNat 32 ρ.val &&& 1#32 == 0#32) := by rw [← hid]; rfl
  have h1 : ∀ (ρ : Fin 8), BitVec.ofBool (BitVec.ofNat 32 ρ.val &&& 1#32 == 0#32) = if ρ.val % 2 = 0 then 1#1 else 0#1 := by decide
  refine Eq.trans (show _ = Scalar.select (cmpi .eq (andi rowIds (broadcast S8x128 1#32)) (broadcast S8x128 0#32) (ix2 ρ r)) _ _ from rfl) ?_
  rw [hc, h1]
  unfold other
  by_cases h : ρ.val % 2 = 0
  · rw [if_pos h, if_pos h]
    refine Eq.trans ?_ (ha _)
    refine Eq.trans (if_pos rfl) ?_
    refine dynamicRotate_apply (s := S8x128) 0 7#32 _ _ _ (ix2 ⟨(ρ.val + 1) % 8, by omega⟩ r) ?_
    intro b; match b with | ⟨0, _⟩ => rfl | ⟨1, _⟩ => rfl
  · rw [if_neg h, if_neg h]
    refine Eq.trans ?_ (ha _)
    refine Eq.trans (if_neg (by decide)) ?_
    refine dynamicRotate_apply (s := S8x128) 0 1#32 _ _ _ (ix2 ⟨(ρ.val + 7) % 8, by omega⟩ r) ?_
    intro b; match b with | ⟨0, _⟩ => rfl | ⟨1, _⟩ => rfl

/-- A pair's maximum bounds the rows of its token, and only them. -/
theorem pairMaxV_le (m : FVec Ideal S16x128 .f32) (ρ : Fin 8) (r : Fin 128) (c : EReal) :
    (pairMaxV (F := Ideal) rowIds m (ix2 ρ r) : EReal) ≤ c ↔ ∀ R : Fin 16, R.val % 8 / 2 = ρ.val / 2 → (m (ix2 R r) : EReal) ≤ c := by
  rw [pairMaxV_apply]
  unfold twoRows
  simp only [max_le_iff]
  have ho : (other ρ).val / 2 = ρ.val / 2 ∧ (other ρ).val ≠ ρ.val := by revert ρ; decide
  constructor
  · rintro ⟨⟨a, b⟩, d, e⟩ R hR
    have : R = ⟨ρ.val, by omega⟩ ∨ R = ⟨8 + ρ.val, by omega⟩ ∨ R = ⟨(other ρ).val, by omega⟩ ∨ R = ⟨8 + (other ρ).val, by omega⟩ := by
      simp only [Fin.ext_iff]; omega
    rcases this with h | h | h | h <;> rw [h] <;> assumption
  · intro h
    exact ⟨⟨h _ (by simp only; omega), h _ (by simp only; omega)⟩, h _ (by simp only; omega), h _ (by simp only; omega)⟩

section Block

variable (B : Fin 96) (M : Fin 2 → Fin 4 → FVec Ideal S16x128 .f32) (A : Fin 4 → Fin 128 → Fin 1536 → Fin 2 → EReal)
  (hM : ∀ h q R r, (M h q (ix2 R r) : EReal) = A (tokRow R) r (colOf B h q R) (hiOf R))

include hM

theorem pairMaxV_eq (ρ : Fin 8) (r : Fin 128) :
    (pairMaxV (F := Ideal) rowIds (max8V M) (ix2 ρ r) : EReal) = amax (A ⟨ρ.val / 2, by omega⟩ r) B := by
  refine eq_of_forall_ge_iff fun c => ?_
  rw [pairMaxV_le]
  unfold amax
  rw [Finset.sup_le_iff]
  constructor
  · rintro h ⟨k, hi⟩ _
    have := (max8V_le M _ c).mp (h ⟨8 * (k.val % 2) + 2 * (ρ.val / 2) + hi.val, by omega⟩ (by simp only; omega)) ⟨k.val / 8, by omega⟩ ⟨k.val % 8 / 2, by omega⟩
    rw [hM] at this
    convert this using 4
    · unfold tokRow; simp only; omega
    · refine Fin.ext ?_; unfold col colOf; simp only; omega
    · refine Fin.ext ?_; unfold hiOf; simp only; omega
  · intro h R hR
    refine (max8V_le M _ c).mpr fun a q => ?_
    rw [hM]
    have := h (⟨8 * a.val + (2 * q.val + R.val / 8), by omega⟩, hiOf R) (Finset.mem_univ _)
    convert this using 4
    · unfold tokRow; simp only; omega
    · refine Fin.ext ?_; unfold col colOf; simp only; omega

theorem scaleOfV_eq (ρ : Fin 8) (r : Fin 128) :
    (scaleOfV (F := Ideal) (pairMaxV (F := Ideal) rowIds (max8V M)) (ix2 ρ r) : EReal) = rowScale (A ⟨ρ.val / 2, by omega⟩ r) B := by
  unfold rowScale
  rw [← pairMaxV_eq B M A hM]
  rfl

theorem codeV_eq (h : Fin 2) (q : Fin 4) (R : Fin 16) (r : Fin 128) :
    codeV (F := Ideal) (scaleOfV (F := Ideal) (pairMaxV (F := Ideal) rowIds (max8V M))) (M h q) (ix2 R r)
      = rowCode (A (tokRow R) r) (colOf B h q R) (hiOf R) := by
  have hb : blockOf (colOf B h q R) = B := Fin.ext (by show (16 * B.val + 8 * h.val + (2 * q.val + R.val / 8)) / 16 = _; omega)
  unfold rowCode
  rw [hb, ← hM]
  have hs : (concatenate S16x128 0 [⟨S8x128, scaleOfV (F := Ideal) (pairMaxV (F := Ideal) rowIds (max8V M))⟩,
      ⟨S8x128, scaleOfV (F := Ideal) (pairMaxV (F := Ideal) rowIds (max8V M))⟩] concatenates_S8x128_S8x128_S16x128_d0 (ix2 R r) : EReal)
      = rowScale (A (tokRow R) r) B := by
    by_cases h8 : R.val < 8
    · have e : tokRow R = ⟨R.val / 2, by omega⟩ := Fin.ext (by unfold tokRow; simp only; omega)
      rw [e]
      refine (concatenate_pair_apply_left (t := S16x128) (s₁ := S8x128) (s₂ := S8x128) 0 _ _ _ _ rfl (ix2 ⟨R.val, h8⟩ r) ?_).trans
        (scaleOfV_eq B M A hM ⟨R.val, h8⟩ r)
      intro b; match b with | ⟨0, _⟩ => rfl | ⟨1, _⟩ => rfl
    · have e : tokRow R = ⟨(R.val - 8) / 2, by omega⟩ := Fin.ext (by unfold tokRow; simp only; omega)
      rw [e]
      refine (concatenate_pair_apply_right (t := S16x128) (s₁ := S8x128) (s₂ := S8x128) 0 _ _ _ _ rfl rfl (ix2 ⟨R.val - 8, by omega⟩ r) ?_ ?_).trans
        (scaleOfV_eq B M A hM ⟨R.val - 8, by omega⟩ r)
      · intro b hb; match b, hb with | ⟨0, _⟩, hb => exact absurd rfl hb | ⟨1, _⟩, _ => rfl
      · show R.val - 8 + 8 = R.val; omega
  rw [← hs]
  rfl

end Block

/-! ## The packed words -/

theorem packV_eq (c : Fin 4 → IVec S16x128 32) (i : Fin 8) (r : Fin 128) :
    packV c (ix2 i r) = (Finset.univ : Finset (Fin 8)).fold IKind.add.op 0#32 fun k =>
      put (c ⟨i.val / 2, by omega⟩ (ix2 ⟨8 * (i.val % 2) + k.val, by omega⟩ r)) k := by
  unfold packV
  rw [shapeCast_self]
  have hR : S8x8x128.Reduces [1] S8x128 := reduces_S8x8x128_S8x128
  refine (multiReductionI_eq_fold (s := S8x8x128) (t := S8x128) (axes := [1]) .add _ _ hR rfl _).trans ?_
  refine (hR.fold_filter_drop_single _ _ _ _).trans ?_
  refine congrArg (fun f => (Finset.univ : Finset (Fin 8)).fold IKind.add.op 0#32 f) (funext fun (k : Fin 8) => ?_)
  have hl : hR.lift (ix2 i r) k = ix3 i k r := by
    funext b; match b with | ⟨0, _⟩ => rfl | ⟨1, _⟩ => rfl | ⟨2, _⟩ => rfl
  show shli _ _ (hR.lift (ix2 i r) k) = _
  rw [hl]
  have hc : shapeCast S8x8x128 (concatenate S64x128 0 (List.ofFn fun n : Fin 4 => (⟨S16x128, c n⟩ : (s : Shape) × (s.Idx → BitVec 32)))
        concatenates_S16x128_S16x128_S16x128_S16x128_S64x128_d0) shapeCasts_S64x128_S8x8x128 (ix3 i k r)
      = c ⟨i.val / 2, by omega⟩ (ix2 ⟨8 * (i.val % 2) + k.val, by omega⟩ r) := by
    refine (shapeCast_apply (s := S64x128) (t := S8x8x128) _ _ (ix3 i k r) (ix2 ⟨8 * i.val + k.val, by omega⟩ r) ?_).trans ?_
    · rw [Shape.rowMajor_val_two, Shape.rowMajor_val_three]
      show (8 * i.val + k.val) * 128 + r.val = (i.val * 8 + k.val) * 128 + r.val
      omega
    · refine concatenate_ofFn_apply (t := S64x128) (s₁ := S16x128) 0 c _ rfl 16 rfl _ ⟨i.val / 2, by omega⟩ ?_ _ ?_ ?_
      · show (8 * i.val + k.val) / 16 = i.val / 2; omega
      · show 8 * (i.val % 2) + k.val = (8 * i.val + k.val) % 16; omega
      · intro b hb; match b, hb with | ⟨0, _⟩, hb => exact absurd rfl hb | ⟨1, _⟩, _ => rfl
  have hi : iota .tc S8x8x128 32 [1] iota_S8x8x128_d1_w32 (ix3 i k r) = BitVec.ofNat 32 k.val := iota_single_apply .tc S8x8x128 32 1 _ _
  rw [← hc]
  unfold put
  rw [← hi]
  rfl

end Cert.KernelIdeal.Hand
-- ==== Proof.KernelResult.lean ====
/-
What the kernel leaves in its two results over the extended reals: every token's row of sums requantized.
-/
module

public import proofs.«01_k».proof.Proof.KernelCodes

@[expose] public section

set_option maxRecDepth 8192

noncomputable section

namespace Cert.KernelIdeal.Hand

open Idealize.ShloMosaic hiding ix1 ix2 ix3 ix4
open Idealize.ShloMosaic.ValueIdx Cert.KernelIdeal Cert.KernelIdeal.Gen Cert.Hand

variable (x2 : S8x1x512x1536.Idx → BitVec 8) (x3 : S8x1x512x96.Idx → EReal)

/-- A token's sums, by its place in a group of four and the group. -/
def groupSums (j : Fin 4) (r : Fin 128) : Fin 1536 → Fin 2 → EReal := sums3 (rowX x2 (tok r j)) (rowS x3 (tok r j))

theorem blkScale_eq (B : Fin 96) (ρ : Fin 8) (r : Fin 128) :
    (blkScale (F := Ideal) rowIds (Pspec (F := Ideal) (scrG (F := Ideal) x3) B) (Wspec (F := Ideal) x2 B) (ix2 ρ r) : EReal)
      = rowScale (groupSums x2 x3 ⟨ρ.val / 2, by omega⟩ r) B :=
  scaleOfV_eq B _ (groupSums x2 x3) (fun h q R r => accV_apply x2 x3 B h q R r) ρ r

theorem blkCode_eq (B : Fin 96) (h : Fin 2) (q : Fin 4) (R : Fin 16) (r : Fin 128) :
    codeV (F := Ideal) (blkScale (F := Ideal) rowIds (Pspec (F := Ideal) (scrG (F := Ideal) x3) B) (Wspec (F := Ideal) x2 B))
        (accV (F := Ideal) (Pspec (F := Ideal) (scrG (F := Ideal) x3) B) (Wspec (F := Ideal) x2 B) h q) (ix2 R r)
      = rowCode (groupSums x2 x3 (tokRow R) r) (colOf B h q R) (hiOf R) :=
  codeV_eq B _ (groupSums x2 x3) (fun h q R r => accV_apply x2 x3 B h q R r) h q R r

theorem byte_eq (P : Fin 1536) (j : Fin 4) (r : Fin 128) :
    (packG (F := Ideal) rowIds (scrG (F := Ideal) x3) x2 P r).extractLsb' (8 * j.val) 8 = rowByte (groupSums x2 x3 j r) P := by
  unfold packG blkWords
  rw [packV_eq, word_byte _ j ⟨2 * j.val, by omega⟩ ⟨2 * j.val + 1, by omega⟩ rfl rfl, blkCode_eq, blkCode_eq]
  unfold rowByte
  congr 2
  · congr 1; refine Fin.ext ?_; simp only [tokRow]; omega
  · refine Fin.ext ?_; simp only [colOf]; omega
  · refine Fin.ext ?_; simp only [hiOf]; show _ = 0; omega
  · congr 1; refine Fin.ext ?_; simp only [tokRow]; omega
  · refine Fin.ext ?_; simp only [colOf]; omega
  · refine Fin.ext ?_; simp only [hiOf]; show _ = 1; omega

theorem group_token (T : Fin 512) : groupSums x2 x3 ⟨T.val % 4, by omega⟩ ⟨T.val / 4, by omega⟩ = sums3 (rowX x2 T) (rowS x3 T) := by
  have e : tok ⟨T.val / 4, by omega⟩ ⟨T.val % 4, by omega⟩ = T := Fin.ext (by unfold tok; simp only; omega)
  unfold groupSums; rw [e]

theorem outPacked_eq (y : S1x512x1536.Idx) :
    outPacked (F := Ideal) x2 x3 y = rowByte (sums3 (rowX x2 (y 1)) (rowS x3 (y 1))) (y 2) := by
  have h1 : (y 1).val < 512 := (y 1).isLt
  exact (byte_eq x2 x3 (y 2) ⟨(y 1).val % 4, Nat.mod_lt _ (by decide)⟩ ⟨(y 1).val / 4, by omega⟩).trans
    (congrArg (fun A => rowByte A (y 2)) (group_token x2 x3 (y 1)))

theorem outScales_eq (y : S1x512x96.Idx) :
    (outScales (F := Ideal) x2 x3 y : EReal) = rowScale (sums3 (rowX x2 (y 1)) (rowS x3 (y 1))) (y 2) := by
  have h2 : (y 2).val < 96 := (y 2).isLt
  have h1 : (y 1).val < 512 := (y 1).isLt
  refine (blkScale_eq x2 x3 ⟨(8 * (y 2).val + 2 * ((y 1).val % 4)) / 8, by omega⟩ ⟨(8 * (y 2).val + 2 * ((y 1).val % 4)) % 8, by omega⟩ ⟨(y 1).val / 4, by omega⟩).trans ?_
  refine Eq.trans ?_ (congrArg (fun A => rowScale A (y 2)) (group_token x2 x3 (y 1)))
  congr 1
  · congr 1; refine Fin.ext ?_; simp only; omega
  · refine Fin.ext ?_; simp only; omega

end Cert.KernelIdeal.Hand

namespace Cert.KernelIdeal.Hand.Out

open Idealize.ShloMosaic hiding ix1 ix2 ix3 ix4
open Idealize.ShloMosaic.ValueIdx Cert.KernelIdeal Cert.KernelIdeal.Gen Cert.Hand

variable (X : S8x12x1024x1536.Idx → BitVec 8) (S : S8x12x1024x96.Idx → EReal)

/-- The plain sums of a token of a sequence. -/
def tokenSums (b : Fin 12) (t : Fin 1024) : Fin 1536 → Fin 2 → EReal :=
  sums (fun n P => X (ix4 n b t P)) fun n B => S (ix4 n b t B)

theorem halves (t : Fin 1024) (h : 512 * (t.val / 512) + t.val % 512 < 1024) : (⟨512 * (t.val / 512) + t.val % 512, h⟩ : Fin 1024) = t :=
  Fin.ext (by simp only; omega)

theorem same_token (b : Fin 12) (t : Fin 1024) :
    Same (sums3 (rowX (codesBlk (F := Ideal) X b (half t)) (inHalf t)) (rowS (scalesBlk (F := Ideal) S b (half t)) (inHalf t))) (tokenSums X S b t) := by
  have e1 : rowX (codesBlk (F := Ideal) X b (half t)) (inHalf t) = fun n P => X (ix4 n b t P) := by
    funext n P
    exact congrArg (fun t => X (ix4 n b t P)) (halves t _)
  have e2 : rowS (scalesBlk (F := Ideal) S b (half t)) (inHalf t) = fun n B => S (ix4 n b t B) := by
    funext n B
    exact congrArg (fun t => S (ix4 n b t B)) (halves t _)
  rw [e1, e2]
  exact same_sums _ _

theorem packedArr_eq (y : S12x1024x1536.Idx) : packedArr (F := Ideal) X S y = rowByte (tokenSums X S (y 0) (y 1)) (y 2) :=
  (outPacked_eq _ _ _).trans ((same_token X S (y 0) (y 1)).rowByte_eq _)

theorem scalesArr_eq (y : S12x1024x96.Idx) : (scalesArr (F := Ideal) X S y : EReal) = rowScale (tokenSums X S (y 0) (y 1)) (y 2) :=
  (outScales_eq _ _ _).trans ((same_token X S (y 0) (y 1)).rowScale_eq _)

end Cert.KernelIdeal.Hand.Out
-- ==== Proof.RefResult.lean ====
/-
What the reference leaves in its two results over the extended reals: every token's row of sums requantized.
-/
module

public import proofs.«01_k».proof.Proof.Gen.ReferenceIdeal.Read
public import proofs.«01_k».proof.Proof.Quant
public import Idealize.ShloMosaic.PureOps.Reduce
public import Idealize.ShloMosaic.Lib.ValueIdx

@[expose] public section

set_option maxRecDepth 8192

noncomputable section

namespace Cert.ReferenceIdeal.Hand

open Idealize.ShloMosaic
open Idealize.ShloMosaic.ValueIdx Cert.ReferenceIdeal Cert.ReferenceIdeal.Gen Cert.ReferenceIdeal.Read Cert.Hand

variable (X : S8x12x1024x1536.Idx → BitVec 8) (S : S8x12x1024x96.Idx → EReal)

/-- The plain sums of a token of a sequence. -/
def tokenSums (b : Fin 12) (t : Fin 1024) : Fin 1536 → Fin 2 → EReal :=
  sums (fun n P => X (ix4 n b t P)) fun n B => S (ix4 n b t B)

/-! ## The codes -/

theorem low_eq (i : S8x12x1024x1536.Idx) : val_main_v9 (F := Ideal) X i = nib (X i) 0 := by
  rw [nib_low]
  simp only [val_main_v9_apply, val_main_v8_apply, val_main_v7_apply, val_main_v6_apply, val_main_v5_apply, val_main_v2_apply, val_main_v1_apply, val_main_v0_apply]
  show (if BitVec.ofBool ((8#32).sle ((X i).setWidth 32 &&& 15#32)) = 1#1 then ((X i).setWidth 32 &&& 15#32) - 16#32 else ((X i).setWidth 32 &&& 15#32)) = _
  cases (8#32).sle ((X i).setWidth 32 &&& 15#32) <;> rfl

theorem high_eq (i : S8x12x1024x1536.Idx) : val_main_v14 (F := Ideal) X i = nib (X i) 1 := by
  rw [nib_high]
  have h4 : val_main_v4 (F := Ideal) X i = ((X i).setWidth 32).sshiftRight 4 := by
    rw [val_main_v4_apply, val_main_v3_apply, val_main_v0_apply]
    rfl
  simp only [val_main_v14_apply, val_main_v13_apply, val_main_v12_apply, val_main_v11_apply, val_main_v10_apply, h4]
  show (if BitVec.ofBool ((8#32).sle (((X i).setWidth 32).sshiftRight 4)) = 1#1 then (((X i).setWidth 32).sshiftRight 4) - 16#32 else (((X i).setWidth 32).sshiftRight 4)) = _
  cases (8#32).sle (((X i).setWidth 32).sshiftRight 4) <;> rfl

/-! ## The sums -/

theorem block_col (B : Fin 96) (k : Fin 16) : blockOf (col B k) = B := Fin.ext (by unfold blockOf col; simp only; omega)

theorem idx15_eq (n : Fin 8) (i : S12x1024x96x16.Idx) :
    idx_main_v15 (idx_main_v21 i n) = ix4 n (i 0) (i 1) (col (i 2) (i 3)) := by
  have h0 : (i 0).val < 12 := (i 0).isLt
  have h1 : (i 1).val < 1024 := (i 1).isLt
  have h2 : (i 2).val < 96 := (i 2).isLt
  have h3 : (i 3).val < 16 := (i 3).isLt
  funext a
  refine Fin.ext ?_
  match a with
  | ⟨0, _⟩ => show (((((n.val * 12 + (i 0).val) * 1024 + (i 1).val) * 96 + (i 2).val) * 16 + (i 3).val) / 18874368) = n.val; omega
  | ⟨1, _⟩ => show (((((n.val * 12 + (i 0).val) * 1024 + (i 1).val) * 96 + (i 2).val) * 16 + (i 3).val) / 1572864 % 12) = (i 0).val; omega
  | ⟨2, _⟩ => show (((((n.val * 12 + (i 0).val) * 1024 + (i 1).val) * 96 + (i 2).val) * 16 + (i 3).val) / 1536 % 1024) = (i 1).val; omega
  | ⟨3, _⟩ => show (((((n.val * 12 + (i 0).val) * 1024 + (i 1).val) * 96 + (i 2).val) * 16 + (i 3).val) % 1536) = 16 * (i 2).val + (i 3).val; omega

theorem idx17_eq (n : Fin 8) (i : S12x1024x96x16.Idx) :
    idx_main_v17 (idx_main_v19 (idx_main_v21 i n)) = ix4 n (i 0) (i 1) (i 2) := by
  funext a; match a with | ⟨0, _⟩ => rfl | ⟨1, _⟩ => rfl | ⟨2, _⟩ => rfl | ⟨3, _⟩ => rfl

theorem low_sum (i : S12x1024x96x16.Idx) :
    (val_main_v21 (F := Ideal) X S i : EReal) = tokenSums X S (i 0) (i 1) (col (i 2) (i 3)) 0 := by
  rw [val_main_v21_apply, val_main_cst_apply]
  refine Eq.trans (congrArg (fun z : EReal => z + _) (show (FloatOps.ofBits (F := Ideal) .f32 0x00000000#32 : EReal) = 0 from ofBits_zero)) ?_
  rw [zero_add]
  unfold tokenSums sums dot
  refine Finset.sum_congr rfl fun n _ => ?_
  rw [val_main_v20_apply, val_main_v18_apply, val_main_v15_apply, low_eq, val_main_v19_apply, val_main_v17_apply, idx17_eq, idx15_eq]
  refine congrArg₂ (fun a b : EReal => a * b) rfl ?_
  exact congrArg (fun B => S (ix4 n (i 0) (i 1) B)) (block_col (i 2) (i 3)).symm

theorem high_sum (i : S12x1024x96x16.Idx) :
    (val_main_v25 (F := Ideal) X S i : EReal) = tokenSums X S (i 0) (i 1) (col (i 2) (i 3)) 1 := by
  rw [val_main_v25_apply, val_main_cst_5_apply]
  refine Eq.trans (congrArg (fun z : EReal => z + _) (show (FloatOps.ofBits (F := Ideal) .f32 0x00000000#32 : EReal) = 0 from ofBits_zero)) ?_
  rw [zero_add]
  unfold tokenSums sums dot
  refine Finset.sum_congr rfl fun n _ => ?_
  rw [val_main_v24_apply, val_main_v22_apply, val_main_v16_apply, high_eq, val_main_v23_apply, val_main_v17_apply]
  refine congrArg₂ (fun a b : EReal => a * b) ?_ ?_
  · exact congrArg (fun j => (code (X j) 1 : EReal)) (idx15_eq n i)
  · refine Eq.trans (congrArg S (idx17_eq n i)) ?_
    exact congrArg (fun B => S (ix4 n (i 0) (i 1) B)) (block_col (i 2) (i 3)).symm

/-! ## The scales -/

theorem bot_eq : Ideal.ofBits .f32 0xFF800000#32 = ⊥ := by simp [Ideal.ofBits, Ideal.ieee]

/-- A maximum along the last axis, from below everything. -/
theorem max_le (x : S12x1024x96x16.Idx → EReal) (init : S_.Idx → EReal) (hinit : init (Shape.Idx.first h_S_) = ⊥) (i : S12x1024x96.Idx) (c : EReal) :
    (Host.reduce (FloatOps.maximumf (F := Ideal) (φ := .f32)) x init reducesTo_S12x1024x96x16_S12x1024x96_d3 h_S_ i : EReal) ≤ c
      ↔ ∀ k : Fin 16, x (ix4 (i 0) (i 1) (i 2) k) ≤ c := by
  have hR : S12x1024x96x16.Reduces [3] S12x1024x96 := by decide
  have hl : ∀ k : Fin 16, hR.lift i k = ix4 (i 0) (i 1) (i 2) k := by
    intro k; funext b; match b with | ⟨0, _⟩ => rfl | ⟨1, _⟩ => rfl | ⟨2, _⟩ => rfl | ⟨3, _⟩ => rfl
  have hf := Host.reduce_eq_fold_single (fun a b : EReal => max a b) x init reducesTo_S12x1024x96x16_S12x1024x96_d3 hR h_S_ i
  rw [hinit] at hf
  have hop : (FloatOps.maximumf (F := Ideal) (φ := .f32)) = (fun a b : EReal => max a b) := rfl
  rw [hop, hf, Finset.fold_max_le]
  constructor
  · rintro ⟨_, h⟩ k
    exact (congrArg x (hl k)).symm.le.trans (h k (Finset.mem_univ _))
  · intro h
    exact ⟨bot_le, fun k _ => (congrArg x (hl k)).le.trans (h k)⟩

theorem max27 (i : S12x1024x96.Idx) (c : EReal) :
    (val_main_v27 (F := Ideal) X S i : EReal) ≤ c ↔ ∀ k : Fin 16, (val_main_v26 (F := Ideal) X S (ix4 (i 0) (i 1) (i 2) k) : EReal) ≤ c := by
  unfold val_main_v27
  generalize val_main_v26 (F := Ideal) X S = y
  exact max_le y _ bot_eq i c

theorem max29 (i : S12x1024x96.Idx) (c : EReal) :
    (val_main_v29 (F := Ideal) X S i : EReal) ≤ c ↔ ∀ k : Fin 16, (val_main_v28 (F := Ideal) X S (ix4 (i 0) (i 1) (i 2) k) : EReal) ≤ c := by
  unfold val_main_v29
  generalize val_main_v28 (F := Ideal) X S = y
  exact max_le y _ bot_eq i c

theorem host_mag (x : EReal) : (FloatOps.hostAbsf (F := Ideal) (φ := .f32) x : EReal) = mag x := rfl
theorem host_max (x y : EReal) : (FloatOps.maximumf (F := Ideal) (φ := .f32) x y : EReal) = max x y := rfl

/-- The scale's formula, over the largest magnitude. -/
theorem scale_formula (a : EReal) :
    (Scalar.select (FloatOps.cmpf (F := Ideal) (φ := .f32) .oeq a (FloatOps.ofBits (F := Ideal) .f32 0x00000000#32))
      (FloatOps.ofBits (F := Ideal) .f32 0x3F800000#32)
      (FloatOps.hostDivf (F := Ideal) (φ := .f32) a (FloatOps.ofBits (F := Ideal) .f32 0x40E00000#32)) : EReal) = scaleOf a := rfl

/-- The code's formula, over the scale and the sum. -/
theorem code_formula (sc x : EReal) :
    FloatOps.fptosi (F := Ideal) (φ := .f32) 32 (FloatOps.minimumf (F := Ideal) (φ := .f32) (FloatOps.sitofp (F := Ideal) .f32 7#32)
      (FloatOps.maximumf (F := Ideal) (φ := .f32) (FloatOps.sitofp (F := Ideal) .f32 4294967289#32)
        (FloatOps.hostUnary (F := Ideal) (φ := .f32) .roundeven (FloatOps.hostDivf (F := Ideal) (φ := .f32) x sc)))) = codeOf sc x := rfl

theorem amax_eq (i : S12x1024x96.Idx) :
    (val_main_v30 (F := Ideal) X S i : EReal) = amax (tokenSums X S (i 0) (i 1)) (i 2) := by
  have e26 : ∀ k : Fin 16, (val_main_v26 (F := Ideal) X S (ix4 (i 0) (i 1) (i 2) k) : EReal) = mag (tokenSums X S (i 0) (i 1) (col (i 2) k) 0) :=
    fun k => (val_main_v26_apply (F := Ideal) X S _).trans ((host_mag _).trans (congrArg mag (low_sum X S (ix4 (i 0) (i 1) (i 2) k))))
  have e28 : ∀ k : Fin 16, (val_main_v28 (F := Ideal) X S (ix4 (i 0) (i 1) (i 2) k) : EReal) = mag (tokenSums X S (i 0) (i 1) (col (i 2) k) 1) :=
    fun k => (val_main_v28_apply (F := Ideal) X S _).trans ((host_mag _).trans (congrArg mag (high_sum X S (ix4 (i 0) (i 1) (i 2) k))))
  refine (val_main_v30_apply (F := Ideal) X S i).trans ((host_max _ _).trans (eq_of_forall_ge_iff fun c => ?_))
  refine max_le_iff.trans ((and_congr (max27 X S i c) (max29 X S i c)).trans ?_)
  unfold amax
  rw [Finset.sup_le_iff]
  constructor
  · rintro ⟨h, h'⟩ ⟨k, hi⟩ _
    match hi with
    | 0 => exact (e26 k).symm.le.trans (h k)
    | 1 => exact (e28 k).symm.le.trans (h' k)
  · intro h
    exact ⟨fun k => (e26 k).le.trans (h (k, 0) (Finset.mem_univ _)), fun k => (e28 k).le.trans (h (k, 1) (Finset.mem_univ _))⟩

theorem scale_eq (i : S12x1024x96.Idx) :
    (val_main_v35 (F := Ideal) X S i : EReal) = rowScale (tokenSums X S (i 0) (i 1)) (i 2) := by
  refine Eq.trans ?_ ((scale_formula _).trans (congrArg scaleOf (amax_eq X S i)))
  rw [val_main_v35_apply, val_main_v34_apply, val_main_v33_apply, val_main_v32_apply, val_main_v31_apply, val_main_call2_v0_apply,
    val_main_cst_8_apply, val_main_cst_9_apply, val_main_cst_10_apply]

/-! ## The bytes -/

theorem low_code (i : S12x1024x96x16.Idx) :
    val_main_v41 (F := Ideal) X S i = rowCode (tokenSums X S (i 0) (i 1)) (col (i 2) (i 3)) 0 := by
  have hs : (val_main_v37 (F := Ideal) X S i : EReal) = rowScale (tokenSums X S (i 0) (i 1)) (blockOf (col (i 2) (i 3))) := by
    rw [val_main_v37_apply, val_main_v36_apply, scale_eq]
    exact congrArg (rowScale _) (block_col (i 2) (i 3)).symm
  refine Eq.trans ?_ ((code_formula _ _).trans (congrArg₂ codeOf hs (low_sum X S i)))
  rw [val_main_v41_apply, val_main_v40_apply, val_main_call4_v4_apply, val_main_call4_v3_apply,
    val_main_call4_v2_apply, val_main_call4_v1_apply, val_main_call4_v0_apply, val_main_v39_apply, val_main_v38_apply, val_main_c_11_apply, val_main_c_12_apply]

theorem high_code (i : S12x1024x96x16.Idx) :
    val_main_v47 (F := Ideal) X S i = rowCode (tokenSums X S (i 0) (i 1)) (col (i 2) (i 3)) 1 := by
  have hs : (val_main_v43 (F := Ideal) X S i : EReal) = rowScale (tokenSums X S (i 0) (i 1)) (blockOf (col (i 2) (i 3))) := by
    rw [val_main_v43_apply, val_main_v42_apply, scale_eq]
    exact congrArg (rowScale _) (block_col (i 2) (i 3)).symm
  refine Eq.trans ?_ ((code_formula _ _).trans (congrArg₂ codeOf hs (high_sum X S i)))
  rw [val_main_v47_apply, val_main_v46_apply, val_main_call6_v4_apply, val_main_call6_v3_apply,
    val_main_call6_v2_apply, val_main_call6_v1_apply, val_main_call6_v0_apply, val_main_v45_apply, val_main_v44_apply, val_main_c_13_apply, val_main_c_14_apply]

theorem idx49_eq (y : S12x1024x1536.Idx) (P : Fin 1536) (hP : P = y 2) :
    idx_main_v49 y = ix4 (y 0) (y 1) (blockOf P) ⟨P.val % 16, by omega⟩ := by
  subst hP
  have h0 : (y 0).val < 12 := (y 0).isLt
  have h1 : (y 1).val < 1024 := (y 1).isLt
  have h2 : (y 2).val < 1536 := (y 2).isLt
  funext a
  refine Fin.ext ?_
  match a with
  | ⟨0, _⟩ => show (((y 0).val * 1024 + (y 1).val) * 1536 + (y 2).val) / 1572864 = (y 0).val; omega
  | ⟨1, _⟩ => show (((y 0).val * 1024 + (y 1).val) * 1536 + (y 2).val) / 1536 % 1024 = (y 1).val; omega
  | ⟨2, _⟩ => show (((y 0).val * 1024 + (y 1).val) * 1536 + (y 2).val) / 16 % 96 = (y 2).val / 16; omega
  | ⟨3, _⟩ => show (((y 0).val * 1024 + (y 1).val) * 1536 + (y 2).val) % 16 = (y 2).val % 16; omega

theorem col_block (P : Fin 1536) (h : P.val % 16 < 16) : col (blockOf P) ⟨P.val % 16, h⟩ = P := Fin.ext (by unfold col blockOf; simp only; omega)

theorem packed_eq (y : S12x1024x1536.Idx) :
    val_main_v58 (F := Ideal) X S y = rowByte (tokenSums X S (y 0) (y 1)) (y 2) := by
  have hlo : val_main_v49 (F := Ideal) X S y = rowCode (tokenSums X S (y 0) (y 1)) (y 2) 0 := by
    rw [val_main_v49_apply]
    refine Eq.trans (congrArg (val_main_v41 (F := Ideal) X S) (idx49_eq y (y 2) rfl)) ((low_code X S _).trans ?_)
    exact congrArg (fun P => rowCode (tokenSums X S (y 0) (y 1)) P 0) (col_block (y 2) _)
  have hhi : val_main_v50 (F := Ideal) X S y = rowCode (tokenSums X S (y 0) (y 1)) (y 2) 1 := by
    rw [val_main_v50_apply]
    refine Eq.trans (congrArg (val_main_v47 (F := Ideal) X S) (idx49_eq y (y 2) rfl)) ((high_code X S _).trans ?_)
    exact congrArg (fun P => rowCode (tokenSums X S (y 0) (y 1)) P 1) (col_block (y 2) _)
  unfold rowByte
  refine Eq.trans ?_ ((byteOf_eq _ _).trans (congrArg₂ byteOf hlo hhi))
  simp only [val_main_v58_apply, val_main_v57_apply, val_main_v56_apply, val_main_v55_apply, val_main_v54_apply, val_main_v53_apply, val_main_v52_apply, val_main_v51_apply]
  rfl

theorem scales_eq (y : S12x1024x96.Idx) : (val_main_v48_2 (F := Ideal) X S y : EReal) = rowScale (tokenSums X S (y 0) (y 1)) (y 2) :=
  (val_main_v48_2_apply (F := Ideal) X S y).trans (scale_eq X S y)

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRead
public import proofs.«01_k».proof.Proof.KernelFrame
public import proofs.«01_k».proof.Proof.KernelIdealFrame
public import proofs.«01_k».proof.Proof.KernelResult
public import proofs.«01_k».proof.Proof.RefResult
public import Idealize.ShloMosaic.Lib.Quiescent
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem frame_kernel [Cert.Kernel.Facts] : Cert.quiescent_Kernel := fun m ρ _ =>
  (θ_run Cert.Kernel.defs _ _).mono (fun _ h => ⟨fun c => ⟨Cert.Kernel.Hand.final_arg0 h.1 c, Cert.Kernel.Hand.final_arg1 h.1 c⟩, h.2⟩)
    (Cert.Kernel.Hand.run_main m ρ)

theorem frame_kernelIdeal [Cert.KernelIdeal.Facts] : Cert.quiescent_KernelIdeal := fun m ρ _ =>
  (θ_run Cert.KernelIdeal.defs _ _).mono (fun _ h => ⟨fun c => ⟨Cert.KernelIdeal.Hand.final_arg0 h.1 c, Cert.KernelIdeal.Hand.final_arg1 h.1 c⟩, h.2⟩)
    (Cert.KernelIdeal.Hand.run_main m ρ)

theorem frame_referenceIdeal [Cert.ReferenceIdeal.Facts] : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The packed bytes of the two programs, at equal inputs. -/
theorem packed_same (X : Cert.KernelIdeal.S8x12x1024x1536.Idx → BitVec 8) (S : Cert.KernelIdeal.S8x12x1024x96.Idx → EReal) :
    Cert.ReferenceIdeal.Read.val_main_v58 (F := Ideal) X S = Cert.KernelIdeal.Hand.Out.packedArr (F := Ideal) X S :=
  funext fun y => (Cert.ReferenceIdeal.Hand.packed_eq X S y).trans (Cert.KernelIdeal.Hand.Out.packedArr_eq X S y).symm

/-- The scales of the two programs, at equal inputs. -/
theorem scales_same (X : Cert.KernelIdeal.S8x12x1024x1536.Idx → BitVec 8) (S : Cert.KernelIdeal.S8x12x1024x96.Idx → EReal) :
    Cert.ReferenceIdeal.Read.val_main_v48_2 (F := Ideal) X S = Cert.KernelIdeal.Hand.Out.scalesArr (F := Ideal) X S :=
  funext fun y => (Cert.ReferenceIdeal.Hand.scales_eq X S y).trans (Cert.KernelIdeal.Hand.Out.scalesArr_eq X S y).symm

theorem algebraic [Cert.KernelIdeal.Facts] [Cert.ReferenceIdeal.Facts] : Cert.algebraic_KernelIdeal_ReferenceIdeal := by
  intro m g m' g' _ hin
  refine ⟨fun c => Cert.KernelIdeal.Hand.Out.packedArr (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.KernelIdeal.Hand.Out.scalesArr (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.Out.run (F := Ideal) m g, ?_⟩
  refine (θ_run Cert.ReferenceIdeal.defs _ _).mono (fun r h c => ⟨?_, ?_, (h c).2.2⟩) (Cert.ReferenceIdeal.Value.run (F := Ideal) m' g')
  · refine (h c).1.trans ((Cert.ReferenceIdeal.Read.val_main_v58_eq m' c).trans ?_)
    rw [(hin c).1, (hin c).2]
    exact packed_same _ _
  · refine (h c).2.1.trans ((Cert.ReferenceIdeal.Read.val_main_v48_2_eq m' c).trans ?_)
    rw [(hin c).1, (hin c).2]
    exact scales_same _ _

theorem claim : Cert.Claim := ⟨Cert.Kernel.Gen.facts, Cert.KernelIdeal.Gen.facts, Cert.ReferenceIdeal.Gen.facts,
  frame_kernel, frame_kernelIdeal, frame_referenceIdeal,
  ⟨IdealRules.bf16_pack.statement _, IdealRules.bf16_pair.packStatement _, IdealRules.bf16_pair.statement _ _⟩,
  algebraic⟩

end Cert.Proof

end
